-- ==== Defs.lean ====
def Pre_Kernel (m : (ℓ : Loc Cert.Kernel.nD Cert.Kernel.τ Cert.Kernel.sig) → Buf (Elt Bits) ℓ) : Prop :=
  True

def Pre_Kernel_admissible [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_admissible [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel_admissible m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_Kernel_pre_admissible (hKernel := hKernel) (hPre_admissible := hPre_admissible)
    ∧ quiescent_KernelIdeal (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal (hKernelIdeal := hKernelIdeal) (hReferenceIdeal := hReferenceIdeal) (hPre_admissible := hPre_admissible)
-- ==== Pre_admissible.lean ====
abbrev S4x80x128x128 : Shape := ⟨4, ![4, 80, 128, 128]⟩
abbrev S4x4x128x128 : Shape := ⟨4, ![4, 4, 128, 128]⟩
abbrev S4x100 : Shape := ⟨2, ![4, 100]⟩
abbrev S4x100x4 : Shape := ⟨3, ![4, 100, 4]⟩
abbrev S4x4 : Shape := ⟨2, ![4, 4]⟩
abbrev S4x128x128x80 : Shape := ⟨4, ![4, 128, 128, 80]⟩
abbrev S4x16384x80 : Shape := ⟨3, ![4, 16384, 80]⟩
abbrev S_ : Shape := ⟨0, ![]⟩
abbrev S4x128x128x4 : Shape := ⟨4, ![4, 128, 128, 4]⟩
abbrev S4x16384x4 : Shape := ⟨3, ![4, 16384, 4]⟩
abbrev S4x100x1 : Shape := ⟨3, ![4, 100, 1]⟩
abbrev S4x16384x100 : Shape := ⟨3, ![4, 16384, 100]⟩
abbrev S4x1x4 : Shape := ⟨3, ![4, 1, 4]⟩
abbrev S1x4x1x1x1x4 : Shape := ⟨6, ![1, 4, 1, 1, 1, 4]⟩
abbrev S1x4x16384x1x1x4 : Shape := ⟨6, ![1, 4, 16384, 1, 1, 4]⟩
abbrev S4x16384x1x4 : Shape := ⟨4, ![4, 16384, 1, 4]⟩
abbrev S4x1x100x4 : Shape := ⟨4, ![4, 1, 100, 4]⟩
abbrev S4x16384x100x4 : Shape := ⟨4, ![4, 16384, 100, 4]⟩
abbrev S4x16384x1 : Shape := ⟨3, ![4, 16384, 1]⟩
abbrev S4x16384 : Shape := ⟨2, ![4, 16384]⟩
abbrev S4x16384x2 : Shape := ⟨3, ![4, 16384, 2]⟩
abbrev S4x16384x1x2 : Shape := ⟨4, ![4, 16384, 1, 2]⟩
abbrev S4x100x2 : Shape := ⟨3, ![4, 100, 2]⟩
abbrev S4x1x100x2 : Shape := ⟨4, ![4, 1, 100, 2]⟩
abbrev S4x16384x100x2 : Shape := ⟨4, ![4, 16384, 100, 2]⟩
abbrev S4x16384x100x1 : Shape := ⟨4, ![4, 16384, 100, 1]⟩
abbrev S4x1x100 : Shape := ⟨3, ![4, 1, 100]⟩
abbrev S4x8x2048x100 : Shape := ⟨4, ![4, 8, 2048, 100]⟩
abbrev S4x8x100 : Shape := ⟨3, ![4, 8, 100]⟩
abbrev S4x8x1x100 : Shape := ⟨4, ![4, 8, 1, 100]⟩

class Facts : Prop where
  transposes_S4x80x128x128_S4x128x128x80_0_2_3_1 : S4x80x128x128.Transposes [0, 2, 3, 1] S4x128x128x80
  shapeCasts_S4x128x128x80_S4x16384x80 : S4x128x128x80.ShapeCasts S4x16384x80
  bcast_S_S4x16384x80 : S_.BroadcastsInDim S4x16384x80 (![] : Fin 0 → Fin S4x16384x80.rank)
  transposes_S4x4x128x128_S4x128x128x4_0_2_3_1 : S4x4x128x128.Transposes [0, 2, 3, 1] S4x128x128x4
  shapeCasts_S4x128x128x4_S4x16384x4 : S4x128x128x4.ShapeCasts S4x16384x4
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x4_S4x1x4_0_2 : S4x4.BroadcastsInDim S4x1x4 (![0, 2] : Fin 2 → Fin S4x1x4.rank)
  shapeCasts_S4x1x4_S1x4x1x1x1x4 : S4x1x4.ShapeCasts S1x4x1x1x1x4
  bcast_S1x4x1x1x1x4_S1x4x16384x1x1x4_0_1_2_3_4_5 : S1x4x1x1x1x4.BroadcastsInDim S1x4x16384x1x1x4 (![0, 1, 2, 3, 4, 5] : Fin 6 → Fin S1x4x16384x1x1x4.rank)
  shapeCasts_S1x4x16384x1x1x4_S4x16384x4 : S1x4x16384x1x1x4.ShapeCasts S4x16384x4
  bcast_S4x16384x4_S4x16384x1x4_0_1_3 : S4x16384x4.BroadcastsInDim S4x16384x1x4 (![0, 1, 3] : Fin 3 → Fin S4x16384x1x4.rank)
  bcast_S4x100x4_S4x1x100x4_0_2_3 : S4x100x4.BroadcastsInDim S4x1x100x4 (![0, 2, 3] : Fin 3 → Fin S4x1x100x4.rank)
  bcast_S4x16384x1x4_S4x16384x100x4_0_1_2_3 : S4x16384x1x4.BroadcastsInDim S4x16384x100x4 (![0, 1, 2, 3] : Fin 4 → Fin S4x16384x100x4.rank)
  bcast_S4x1x100x4_S4x16384x100x4_0_1_2_3 : S4x1x100x4.BroadcastsInDim S4x16384x100x4 (![0, 1, 2, 3] : Fin 4 → Fin S4x16384x100x4.rank)
  reducesTo_S4x16384x100x4_S4x16384x100_d3 : S4x16384x100x4.ReducesTo [3] S4x16384x100
  h_S_ : 0 < S_.numel
  slices_S4x16384x4_S4x16384x1_0_0_2 : S4x16384x4.Slices ![0, 0, 2] S4x16384x1
  shapeCasts_S4x16384x1_S4x16384 : S4x16384x1.ShapeCasts S4x16384
  slices_S4x16384x4_S4x16384x1_0_0_0 : S4x16384x4.Slices ![0, 0, 0] S4x16384x1
  slices_S4x16384x4_S4x16384x1_0_0_3 : S4x16384x4.Slices ![0, 0, 3] S4x16384x1
  slices_S4x16384x4_S4x16384x1_0_0_1 : S4x16384x4.Slices ![0, 0, 1] S4x16384x1
  slices_S4x100x4_S4x100x1_0_0_2 : S4x100x4.Slices ![0, 0, 2] S4x100x1
  shapeCasts_S4x100x1_S4x100 : S4x100x1.ShapeCasts S4x100
  slices_S4x100x4_S4x100x1_0_0_0 : S4x100x4.Slices ![0, 0, 0] S4x100x1
  slices_S4x100x4_S4x100x1_0_0_3 : S4x100x4.Slices ![0, 0, 3] S4x100x1
  slices_S4x100x4_S4x100x1_0_0_1 : S4x100x4.Slices ![0, 0, 1] S4x100x1
  slices_S4x16384x4_S4x16384x2_0_0_0 : S4x16384x4.Slices ![0, 0, 0] S4x16384x2
  bcast_S4x16384x2_S4x16384x1x2_0_1_3 : S4x16384x2.BroadcastsInDim S4x16384x1x2 (![0, 1, 3] : Fin 3 → Fin S4x16384x1x2.rank)
  slices_S4x100x4_S4x100x2_0_0_0 : S4x100x4.Slices ![0, 0, 0] S4x100x2
  bcast_S4x100x2_S4x1x100x2_0_2_3 : S4x100x2.BroadcastsInDim S4x1x100x2 (![0, 2, 3] : Fin 3 → Fin S4x1x100x2.rank)
  bcast_S4x16384x1x2_S4x16384x100x2_0_1_2_3 : S4x16384x1x2.BroadcastsInDim S4x16384x100x2 (![0, 1, 2, 3] : Fin 4 → Fin S4x16384x100x2.rank)
  bcast_S4x1x100x2_S4x16384x100x2_0_1_2_3 : S4x1x100x2.BroadcastsInDim S4x16384x100x2 (![0, 1, 2, 3] : Fin 4 → Fin S4x16384x100x2.rank)
  slices_S4x16384x4_S4x16384x2_0_0_2 : S4x16384x4.Slices ![0, 0, 2] S4x16384x2
  slices_S4x100x4_S4x100x2_0_0_2 : S4x100x4.Slices ![0, 0, 2] S4x100x2
  bcast_S_S4x16384x100x2 : S_.BroadcastsInDim S4x16384x100x2 (![] : Fin 0 → Fin S4x16384x100x2.rank)
  slices_S4x16384x100x2_S4x16384x100x1_0_0_0_0 : S4x16384x100x2.Slices ![0, 0, 0, 0] S4x16384x100x1
  shapeCasts_S4x16384x100x1_S4x16384x100 : S4x16384x100x1.ShapeCasts S4x16384x100
  slices_S4x16384x100x2_S4x16384x100x1_0_0_0_1 : S4x16384x100x2.Slices ![0, 0, 0, 1] S4x16384x100x1
  bcast_S4x16384_S4x16384x1_0_1 : S4x16384.BroadcastsInDim S4x16384x1 (![0, 1] : Fin 2 → Fin S4x16384x1.rank)
  bcast_S4x100_S4x1x100_0_2 : S4x100.BroadcastsInDim S4x1x100 (![0, 2] : Fin 2 → Fin S4x1x100.rank)
  bcast_S4x16384x1_S4x16384x100_0_1_2 : S4x16384x1.BroadcastsInDim S4x16384x100 (![0, 1, 2] : Fin 3 → Fin S4x16384x100.rank)
  bcast_S4x1x100_S4x16384x100_0_1_2 : S4x1x100.BroadcastsInDim S4x16384x100 (![0, 1, 2] : Fin 3 → Fin S4x16384x100.rank)
  bcast_S_S4x16384x100 : S_.BroadcastsInDim S4x16384x100 (![] : Fin 0 → Fin S4x16384x100.rank)
  shapeCasts_S4x16384x100_S4x8x2048x100 : S4x16384x100.ShapeCasts S4x8x2048x100
  reducesTo_S4x8x2048x100_S4x8x100_d2 : S4x8x2048x100.ReducesTo [2] S4x8x100
  bcast_S4x8x100_S4x8x1x100_0_1_3 : S4x8x100.BroadcastsInDim S4x8x1x100 (![0, 1, 3] : Fin 3 → Fin S4x8x1x100.rank)
  bcast_S4x8x1x100_S4x8x2048x100_0_1_2_3 : S4x8x1x100.BroadcastsInDim S4x8x2048x100 (![0, 1, 2, 3] : Fin 4 → Fin S4x8x2048x100.rank)
  natLt_1_32 : 1 < 32
  bcast_S_S4x8x100 : S_.BroadcastsInDim S4x8x100 (![] : Fin 0 → Fin S4x8x100.rank)
  reducesTo_S4x8x100_S4x100_d1 : S4x8x100.ReducesTo [1] S4x100
  gather_S4x16384x80_S4x100x1_S4x16384x100_1_2_0_0_2_2_1163841_wf : GatherDims.WF S4x16384x80 S4x100x1 S4x16384x100 [1] [2] [0] [2] [0] 2 ![1, 16384, 1]

variable [Facts]

def gather_S4x16384x80_S4x100x1_S4x16384x100_1_2_0_0_2_2_1163841 : GatherDims S4x16384x80 S4x100x1 S4x16384x100 where
  offsetDims := [1]
  collapsedSliceDims := [2]
  operandBatchingDims := [0]
  startIndicesBatchingDims := [0]
  startIndexMap := [2]
  indexVectorDim := 2
  sliceSizes := ![1, 16384, 1]
  wf := gather_S4x16384x80_S4x100x1_S4x16384x100_1_2_0_0_2_2_1163841_wf
def fn_clip {F : FTy → Type} [FloatOps F] (arg0 : FVec F S4x16384x100x2 .f32) (arg1 : FVec F S_ .f32) : FVec F S4x16384x100x2 .f32 :=
  let v0 : FVec F S_ .f32 := id arg1
  let v1 : FVec F S4x16384x100x2 .f32 := broadcastInDim S4x16384x100x2 ![] bcast_S_S4x16384x100x2 v0
  let v2 : FVec F S4x16384x100x2 .f32 := maximumf v1 arg0
  v2

def fn_part8 {F : FTy → Type} [FloatOps F] (main_v152 : IVec S4x100 1) (main_v157 : IVec S4x100 1) (main_v162 : IVec S4x100 1) (main_v164 : FVec F S4x100 .f32) (main_v165 : FVec F S4x100x1 .f32) : IVec S4x100 1 :=
  let main_v166 : FVec F S4x100 .f32 := shapeCast S4x100 main_v165 shapeCasts_S4x100x1_S4x100
  let main_v167 : IVec S4x100 1 := cmpf .olt main_v164 main_v166
  let main_v168 : IVec S4x100 1 := andi main_v162 main_v167
  let main_v169 : IVec S4x100 1 := andi main_v157 main_v168
  let main_v170 : IVec S4x100 1 := andi main_v169 main_v152
  main_v170

def fn_part7 {F : FTy → Type} [FloatOps F] (main_arg2 : IVec S4x100 32) (main_arg3 : FVec F S4x100x4 .f32) (main_v143 : FVec F S4x8x2048x100 .f32) (main_v146 : FVec F S4x8x2048x100 .f32) : IVec S4x100 1 :=
  let main_v147 : IVec S4x8x2048x100 1 := cmpf .oeq main_v143 main_v146
  let main_v148 : IVec S4x8x2048x100 32 := (extui 32 · natLt_1_32) main_v147
  let main_c_19 : IVec S_ 32 := constantI S_ 32 0#32
  let main_v149 : IVec S4x8x100 32 := (fun x v => Host.reduce IntOp.addi x v reducesTo_S4x8x2048x100_S4x8x100_d2 h_S_) main_v148 main_c_19
  let main_c_20 : IVec S_ 32 := constantI S_ 32 1#32
  let main_v150 : IVec S4x8x100 32 := broadcastInDim S4x8x100 ![] bcast_S_S4x8x100 main_c_20
  let main_v151 : IVec S4x8x100 1 := cmpi .eq main_v149 main_v150
  let main_c_21 : IVec S_ 1 := constantI S_ 1 1#1
  let main_v152 : IVec S4x100 1 := (fun x v => Host.reduce IntOp.andi x v reducesTo_S4x8x100_S4x100_d1 h_S_) main_v151 main_c_21
  let main_c_22 : IVec S_ 32 := constantI S_ 32 0#32
  let main_v153 : IVec S4x100 32 := broadcastInDim S4x100 ![] bcast_S_S4x100 main_c_22
  let main_v154 : IVec S4x100 1 := cmpi .sge main_arg2 main_v153
  let main_c_23 : IVec S_ 32 := constantI S_ 32 80#32
  let main_v155 : IVec S4x100 32 := broadcastInDim S4x100 ![] bcast_S_S4x100 main_c_23
  let main_v156 : IVec S4x100 1 := cmpi .slt main_arg2 main_v155
  let main_v157 : IVec S4x100 1 := andi main_v154 main_v156
  let main_v158 : FVec F S4x100x1 .f32 := (extractStridedSlice S4x100x1 ![0, 0, 0] · slices_S4x100x4_S4x100x1_0_0_0) main_arg3
  let main_v159 : FVec F S4x100 .f32 := shapeCast S4x100 main_v158 shapeCasts_S4x100x1_S4x100
  let main_v160 : FVec F S4x100x1 .f32 := (extractStridedSlice S4x100x1 ![0, 0, 2] · slices_S4x100x4_S4x100x1_0_0_2) main_arg3
  let main_v161 : FVec F S4x100 .f32 := shapeCast S4x100 main_v160 shapeCasts_S4x100x1_S4x100
  let main_v162 : IVec S4x100 1 := cmpf .olt main_v159 main_v161
  let main_v163 : FVec F S4x100x1 .f32 := (extractStridedSlice S4x100x1 ![0, 0, 1] · slices_S4x100x4_S4x100x1_0_0_1) main_arg3
  let main_v164 : FVec F S4x100 .f32 := shapeCast S4x100 main_v163 shapeCasts_S4x100x1_S4x100
  let main_v165 : FVec F S4x100x1 .f32 := (extractStridedSlice S4x100x1 ![0, 0, 3] · slices_S4x100x4_S4x100x1_0_0_3) main_arg3
  fn_part8 (F := F) main_v152 main_v157 main_v162 main_v164 main_v165

def fn_part6 {F : FTy → Type} [FloatOps F] (main_arg2 : IVec S4x100 32) (main_arg3 : FVec F S4x100x4 .f32) (main_v46 : FVec F S4x16384x100 .f32) (main_v59 : FVec F S4x16384x100 .f32) (main_v108 : FVec F S4x16384x100 .f32) (main_v109 : FVec F S4x16384x100 .f32) (main_v125 : FVec F S4x16384x100x2 .f32) (main_v126 : FVec F S4x16384x100x1 .f32) : IVec S4x100 1 :=
  let main_v127 : FVec F S4x16384x100 .f32 := shapeCast S4x16384x100 main_v126 shapeCasts_S4x16384x100x1_S4x16384x100
  let main_v128 : FVec F S4x16384x100x1 .f32 := (extractStridedSlice S4x16384x100x1 ![0, 0, 0, 1] · slices_S4x16384x100x2_S4x16384x100x1_0_0_0_1) main_v125
  let main_v129 : FVec F S4x16384x100 .f32 := shapeCast S4x16384x100 main_v128 shapeCasts_S4x16384x100x1_S4x16384x100
  let main_v130 : FVec F S4x16384x100 .f32 := mulf main_v127 main_v129
  let main_v131 : FVec F S4x16384x100 .f32 := subf main_v130 main_v108
  let main_v132 : FVec F S4x16384x100 .f32 := Host.divf main_v131 main_v130
  let main_v133 : FVec F S4x16384x100 .f32 := subf main_v109 main_v132
  let main_v134 : FVec F S4x16384x100 .f32 := Host.negf main_v133
  let main_cst_15 : FVec F S_ .f32 := constant S_ .f32 0x3F800000#32
  let main_v135 : FVec F S4x16384x100 .f32 := broadcastInDim S4x16384x100 ![] bcast_S_S4x16384x100 main_cst_15
  let main_v136 : FVec F S4x16384x100 .f32 := mulf main_v135 main_v59
  let main_cst_16 : FVec F S_ .f32 := constant S_ .f32 0x3F800000#32
  let main_v137 : FVec F S4x16384x100 .f32 := broadcastInDim S4x16384x100 ![] bcast_S_S4x16384x100 main_cst_16
  let main_v138 : FVec F S4x16384x100 .f32 := mulf main_v137 main_v46
  let main_v139 : FVec F S4x16384x100 .f32 := addf main_v136 main_v138
  let main_cst_17 : FVec F S_ .f32 := constant S_ .f32 0x3F800000#32
  let main_v140 : FVec F S4x16384x100 .f32 := broadcastInDim S4x16384x100 ![] bcast_S_S4x16384x100 main_cst_17
  let main_v141 : FVec F S4x16384x100 .f32 := mulf main_v140 main_v134
  let main_v142 : FVec F S4x16384x100 .f32 := addf main_v139 main_v141
  let main_v143 : FVec F S4x8x2048x100 .f32 := shapeCast S4x8x2048x100 main_v142 shapeCasts_S4x16384x100_S4x8x2048x100
  let main_cst_18 : FVec F S_ .f32 := constant S_ .f32 0x7F800000#32
  let main_v144 : FVec F S4x8x100 .f32 := (fun x v => Host.reduce FloatOps.minimumf x v reducesTo_S4x8x2048x100_S4x8x100_d2 h_S_) main_v143 main_cst_18
  let main_v145 : FVec F S4x8x1x100 .f32 := broadcastInDim S4x8x1x100 ![0, 1, 3] bcast_S4x8x100_S4x8x1x100_0_1_3 main_v144
  let main_v146 : FVec F S4x8x2048x100 .f32 := broadcastInDim S4x8x2048x100 ![0, 1, 2, 3] bcast_S4x8x1x100_S4x8x2048x100_0_1_2_3 main_v145
  fn_part7 (F := F) main_arg2 main_arg3 main_v143 main_v146

def fn_part5 {F : FTy → Type} [FloatOps F] (main_arg2 : IVec S4x100 32) (main_arg3 : FVec F S4x100x4 .f32) (main_v9 : FVec F S4x16384x4 .f32) (main_v46 : FVec F S4x16384x100 .f32) (main_v59 : FVec F S4x16384x100 .f32) (main_v81 : FVec F S4x100 .f32) (main_v102 : FVec F S4x16384x100 .f32) (main_v103 : FVec F S4x16384x1 .f32) : IVec S4x100 1 :=
  let main_v104 : FVec F S4x1x100 .f32 := broadcastInDim S4x1x100 ![0, 2] bcast_S4x100_S4x1x100_0_2 main_v81
  let main_v105 : FVec F S4x16384x100 .f32 := broadcastInDim S4x16384x100 ![0, 1, 2] bcast_S4x16384x1_S4x16384x100_0_1_2 main_v103
  let main_v106 : FVec F S4x16384x100 .f32 := broadcastInDim S4x16384x100 ![0, 1, 2] bcast_S4x1x100_S4x16384x100_0_1_2 main_v104
  let main_v107 : FVec F S4x16384x100 .f32 := addf main_v105 main_v106
  let main_v108 : FVec F S4x16384x100 .f32 := subf main_v107 main_v102
  let main_v109 : FVec F S4x16384x100 .f32 := Host.divf main_v102 main_v108
  let main_v110 : FVec F S4x16384x2 .f32 := (extractStridedSlice S4x16384x2 ![0, 0, 0] · slices_S4x16384x4_S4x16384x2_0_0_0) main_v9
  let main_v111 : FVec F S4x16384x1x2 .f32 := broadcastInDim S4x16384x1x2 ![0, 1, 3] bcast_S4x16384x2_S4x16384x1x2_0_1_3 main_v110
  let main_v112 : FVec F S4x100x2 .f32 := (extractStridedSlice S4x100x2 ![0, 0, 0] · slices_S4x100x4_S4x100x2_0_0_0) main_arg3
  let main_v113 : FVec F S4x1x100x2 .f32 := broadcastInDim S4x1x100x2 ![0, 2, 3] bcast_S4x100x2_S4x1x100x2_0_2_3 main_v112
  let main_v114 : FVec F S4x16384x100x2 .f32 := broadcastInDim S4x16384x100x2 ![0, 1, 2, 3] bcast_S4x16384x1x2_S4x16384x100x2_0_1_2_3 main_v111
  let main_v115 : FVec F S4x16384x100x2 .f32 := broadcastInDim S4x16384x100x2 ![0, 1, 2, 3] bcast_S4x1x100x2_S4x16384x100x2_0_1_2_3 main_v113
  let main_v116 : FVec F S4x16384x100x2 .f32 := minimumf main_v114 main_v115
  let main_v117 : FVec F S4x16384x2 .f32 := (extractStridedSlice S4x16384x2 ![0, 0, 2] · slices_S4x16384x4_S4x16384x2_0_0_2) main_v9
  let main_v118 : FVec F S4x16384x1x2 .f32 := broadcastInDim S4x16384x1x2 ![0, 1, 3] bcast_S4x16384x2_S4x16384x1x2_0_1_3 main_v117
  let main_v119 : FVec F S4x100x2 .f32 := (extractStridedSlice S4x100x2 ![0, 0, 2] · slices_S4x100x4_S4x100x2_0_0_2) main_arg3
  let main_v120 : FVec F S4x1x100x2 .f32 := broadcastInDim S4x1x100x2 ![0, 2, 3] bcast_S4x100x2_S4x1x100x2_0_2_3 main_v119
  let main_v121 : FVec F S4x16384x100x2 .f32 := broadcastInDim S4x16384x100x2 ![0, 1, 2, 3] bcast_S4x16384x1x2_S4x16384x100x2_0_1_2_3 main_v118
  let main_v122 : FVec F S4x16384x100x2 .f32 := broadcastInDim S4x16384x100x2 ![0, 1, 2, 3] bcast_S4x1x100x2_S4x16384x100x2_0_1_2_3 main_v120
  let main_v123 : FVec F S4x16384x100x2 .f32 := maximumf main_v121 main_v122
  let main_v124 : FVec F S4x16384x100x2 .f32 := subf main_v123 main_v116
  let main_cst_14 : FVec F S_ .f32 := constant S_ .f32 0x00000000#32
  let main_v125 : FVec F S4x16384x100x2 .f32 := fn_clip (F := F) main_v124 main_cst_14
  let main_v126 : FVec F S4x16384x100x1 .f32 := (extractStridedSlice S4x16384x100x1 ![0, 0, 0, 0] · slices_S4x16384x100x2_S4x16384x100x1_0_0_0_0) main_v125
  fn_part6 (F := F) main_arg2 main_arg3 main_v46 main_v59 main_v108 main_v109 main_v125 main_v126

def fn_part4 {F : FTy → Type} [FloatOps F] (main_arg2 : IVec S4x100 32) (main_arg3 : FVec F S4x100x4 .f32) (main_v9 : FVec F S4x16384x4 .f32) (main_v46 : FVec F S4x16384x100 .f32) (main_v59 : FVec F S4x16384x100 .f32) (main_v70 : FVec F S4x16384 .f32) (main_v75 : FVec F S4x100 .f32) (main_v80 : FVec F S4x100 .f32) : IVec S4x100 1 :=
  let main_v81 : FVec F S4x100 .f32 := mulf main_v75 main_v80
  let main_v82 : FVec F S4x16384x2 .f32 := (extractStridedSlice S4x16384x2 ![0, 0, 0] · slices_S4x16384x4_S4x16384x2_0_0_0) main_v9
  let main_v83 : FVec F S4x16384x1x2 .f32 := broadcastInDim S4x16384x1x2 ![0, 1, 3] bcast_S4x16384x2_S4x16384x1x2_0_1_3 main_v82
  let main_v84 : FVec F S4x100x2 .f32 := (extractStridedSlice S4x100x2 ![0, 0, 0] · slices_S4x100x4_S4x100x2_0_0_0) main_arg3
  let main_v85 : FVec F S4x1x100x2 .f32 := broadcastInDim S4x1x100x2 ![0, 2, 3] bcast_S4x100x2_S4x1x100x2_0_2_3 main_v84
  let main_v86 : FVec F S4x16384x100x2 .f32 := broadcastInDim S4x16384x100x2 ![0, 1, 2, 3] bcast_S4x16384x1x2_S4x16384x100x2_0_1_2_3 main_v83
  let main_v87 : FVec F S4x16384x100x2 .f32 := broadcastInDim S4x16384x100x2 ![0, 1, 2, 3] bcast_S4x1x100x2_S4x16384x100x2_0_1_2_3 main_v85
  let main_v88 : FVec F S4x16384x100x2 .f32 := maximumf main_v86 main_v87
  let main_v89 : FVec F S4x16384x2 .f32 := (extractStridedSlice S4x16384x2 ![0, 0, 2] · slices_S4x16384x4_S4x16384x2_0_0_2) main_v9
  let main_v90 : FVec F S4x16384x1x2 .f32 := broadcastInDim S4x16384x1x2 ![0, 1, 3] bcast_S4x16384x2_S4x16384x1x2_0_1_3 main_v89
  let main_v91 : FVec F S4x100x2 .f32 := (extractStridedSlice S4x100x2 ![0, 0, 2] · slices_S4x100x4_S4x100x2_0_0_2) main_arg3
  let main_v92 : FVec F S4x1x100x2 .f32 := broadcastInDim S4x1x100x2 ![0, 2, 3] bcast_S4x100x2_S4x1x100x2_0_2_3 main_v91
  let main_v93 : FVec F S4x16384x100x2 .f32 := broadcastInDim S4x16384x100x2 ![0, 1, 2, 3] bcast_S4x16384x1x2_S4x16384x100x2_0_1_2_3 main_v90
  let main_v94 : FVec F S4x16384x100x2 .f32 := broadcastInDim S4x16384x100x2 ![0, 1, 2, 3] bcast_S4x1x100x2_S4x16384x100x2_0_1_2_3 main_v92
  let main_v95 : FVec F S4x16384x100x2 .f32 := minimumf main_v93 main_v94
  let main_v96 : FVec F S4x16384x100x2 .f32 := subf main_v95 main_v88
  let main_cst_13 : FVec F S_ .f32 := constant S_ .f32 0x00000000#32
  let main_v97 : FVec F S4x16384x100x2 .f32 := fn_clip (F := F) main_v96 main_cst_13
  let main_v98 : FVec F S4x16384x100x1 .f32 := (extractStridedSlice S4x16384x100x1 ![0, 0, 0, 0] · slices_S4x16384x100x2_S4x16384x100x1_0_0_0_0) main_v97
  let main_v99 : FVec F S4x16384x100 .f32 := shapeCast S4x16384x100 main_v98 shapeCasts_S4x16384x100x1_S4x16384x100
  let main_v100 : FVec F S4x16384x100x1 .f32 := (extractStridedSlice S4x16384x100x1 ![0, 0, 0, 1] · slices_S4x16384x100x2_S4x16384x100x1_0_0_0_1) main_v97
  let main_v101 : FVec F S4x16384x100 .f32 := shapeCast S4x16384x100 main_v100 shapeCasts_S4x16384x100x1_S4x16384x100
  let main_v102 : FVec F S4x16384x100 .f32 := mulf main_v99 main_v101
  let main_v103 : FVec F S4x16384x1 .f32 := broadcastInDim S4x16384x1 ![0, 1] bcast_S4x16384_S4x16384x1_0_1 main_v70
  fn_part5 (F := F) main_arg2 main_arg3 main_v9 main_v46 main_v59 main_v81 main_v102 main_v103

def fn_part3 {F : FTy → Type} [FloatOps F] (main_arg2 : IVec S4x100 32) (main_arg3 : FVec F S4x100x4 .f32) (main_v9 : FVec F S4x16384x4 .f32) (main_v46 : FVec F S4x16384x100 .f32) (main_v57 : FVec F S4x16384x100x4 .f32) : IVec S4x100 1 :=
  let main_v58 : FVec F S4x16384x100x4 .f32 := Host.absf main_v57
  let main_cst_12 : FVec F S_ .f32 := constant S_ .f32 0x00000000#32
  let main_v59 : FVec F S4x16384x100 .f32 := (fun x v => Host.reduceAdd x v reducesTo_S4x16384x100x4_S4x16384x100_d3 h_S_) main_v58 main_cst_12
  let main_v60 : FVec F S4x16384x1 .f32 := (extractStridedSlice S4x16384x1 ![0, 0, 2] · slices_S4x16384x4_S4x16384x1_0_0_2) main_v9
  let main_v61 : FVec F S4x16384 .f32 := shapeCast S4x16384 main_v60 shapeCasts_S4x16384x1_S4x16384
  let main_v62 : FVec F S4x16384x1 .f32 := (extractStridedSlice S4x16384x1 ![0, 0, 0] · slices_S4x16384x4_S4x16384x1_0_0_0) main_v9
  let main_v63 : FVec F S4x16384 .f32 := shapeCast S4x16384 main_v62 shapeCasts_S4x16384x1_S4x16384
  let main_v64 : FVec F S4x16384 .f32 := subf main_v61 main_v63
  let main_v65 : FVec F S4x16384x1 .f32 := (extractStridedSlice S4x16384x1 ![0, 0, 3] · slices_S4x16384x4_S4x16384x1_0_0_3) main_v9
  let main_v66 : FVec F S4x16384 .f32 := shapeCast S4x16384 main_v65 shapeCasts_S4x16384x1_S4x16384
  let main_v67 : FVec F S4x16384x1 .f32 := (extractStridedSlice S4x16384x1 ![0, 0, 1] · slices_S4x16384x4_S4x16384x1_0_0_1) main_v9
  let main_v68 : FVec F S4x16384 .f32 := shapeCast S4x16384 main_v67 shapeCasts_S4x16384x1_S4x16384
  let main_v69 : FVec F S4x16384 .f32 := subf main_v66 main_v68
  let main_v70 : FVec F S4x16384 .f32 := mulf main_v64 main_v69
  let main_v71 : FVec F S4x100x1 .f32 := (extractStridedSlice S4x100x1 ![0, 0, 2] · slices_S4x100x4_S4x100x1_0_0_2) main_arg3
  let main_v72 : FVec F S4x100 .f32 := shapeCast S4x100 main_v71 shapeCasts_S4x100x1_S4x100
  let main_v73 : FVec F S4x100x1 .f32 := (extractStridedSlice S4x100x1 ![0, 0, 0] · slices_S4x100x4_S4x100x1_0_0_0) main_arg3
  let main_v74 : FVec F S4x100 .f32 := shapeCast S4x100 main_v73 shapeCasts_S4x100x1_S4x100
  let main_v75 : FVec F S4x100 .f32 := subf main_v72 main_v74
  let main_v76 : FVec F S4x100x1 .f32 := (extractStridedSlice S4x100x1 ![0, 0, 3] · slices_S4x100x4_S4x100x1_0_0_3) main_arg3
  let main_v77 : FVec F S4x100 .f32 := shapeCast S4x100 main_v76 shapeCasts_S4x100x1_S4x100
  let main_v78 : FVec F S4x100x1 .f32 := (extractStridedSlice S4x100x1 ![0, 0, 1] · slices_S4x100x4_S4x100x1_0_0_1) main_arg3
  let main_v79 : FVec F S4x100 .f32 := shapeCast S4x100 main_v78 shapeCasts_S4x100x1_S4x100
  let main_v80 : FVec F S4x100 .f32 := subf main_v77 main_v79
  fn_part4 (F := F) main_arg2 main_arg3 main_v9 main_v46 main_v59 main_v70 main_v75 main_v80

def fn_part2 {F : FTy → Type} [FloatOps F] (main_arg2 : IVec S4x100 32) (main_arg3 : FVec F S4x100x4 .f32) (main_arg4 : FVec F S4x4 .f32) (main_arg5 : FVec F S4x100x4 .f32) (main_v9 : FVec F S4x16384x4 .f32) (main_v20 : FVec F S4x16384x80 .f32) (main_v31 : FVec F S4x16384x80 .f32) (main_v33 : IVec S4x100 1) (main_v35 : IVec S4x100 32) : IVec S4x100 1 :=
  let main_v36 : IVec S4x100 32 := select main_v33 main_v35 main_arg2
  let main_v37 : IVec S4x100x1 32 := broadcastInDim S4x100x1 ![0, 1] bcast_S4x100_S4x100x1_0_1 main_v36
  let main_v38 : FVec F S4x16384x100 .f32 := (fun x i => Host.gather gather_S4x16384x80_S4x100x1_S4x16384x100_1_2_0_0_2_2_1163841 x i) main_v31 main_v37
  let main_c_10 : IVec S_ 32 := constantI S_ 32 0#32
  let main_v39 : IVec S4x100 32 := broadcastInDim S4x100 ![] bcast_S_S4x100 main_c_10
  let main_v40 : IVec S4x100 1 := cmpi .slt main_arg2 main_v39
  let main_c_11 : IVec S_ 32 := constantI S_ 32 80#32
  let main_v41 : IVec S4x100 32 := broadcastInDim S4x100 ![] bcast_S_S4x100 main_c_11
  let main_v42 : IVec S4x100 32 := addi main_arg2 main_v41
  let main_v43 : IVec S4x100 32 := select main_v40 main_v42 main_arg2
  let main_v44 : IVec S4x100x1 32 := broadcastInDim S4x100x1 ![0, 1] bcast_S4x100_S4x100x1_0_1 main_v43
  let main_v45 : FVec F S4x16384x100 .f32 := (fun x i => Host.gather gather_S4x16384x80_S4x100x1_S4x16384x100_1_2_0_0_2_2_1163841 x i) main_v20 main_v44
  let main_v46 : FVec F S4x16384x100 .f32 := subf main_v38 main_v45
  let main_v47 : FVec F S4x1x4 .f32 := broadcastInDim S4x1x4 ![0, 2] bcast_S4x4_S4x1x4_0_2 main_arg4
  let main_v48 : FVec F S1x4x1x1x1x4 .f32 := shapeCast S1x4x1x1x1x4 main_v47 shapeCasts_S4x1x4_S1x4x1x1x1x4
  let main_v49 : FVec F S1x4x16384x1x1x4 .f32 := broadcastInDim S1x4x16384x1x1x4 ![0, 1, 2, 3, 4, 5] bcast_S1x4x1x1x1x4_S1x4x16384x1x1x4_0_1_2_3_4_5 main_v48
  let main_v50 : FVec F S4x16384x4 .f32 := shapeCast S4x16384x4 main_v49 shapeCasts_S1x4x16384x1x1x4_S4x16384x4
  let main_v51 : FVec F S4x16384x4 .f32 := Host.divf main_v9 main_v50
  let main_v52 : FVec F S4x100x4 .f32 := Host.divf main_arg3 main_arg5
  let main_v53 : FVec F S4x16384x1x4 .f32 := broadcastInDim S4x16384x1x4 ![0, 1, 3] bcast_S4x16384x4_S4x16384x1x4_0_1_3 main_v51
  let main_v54 : FVec F S4x1x100x4 .f32 := broadcastInDim S4x1x100x4 ![0, 2, 3] bcast_S4x100x4_S4x1x100x4_0_2_3 main_v52
  let main_v55 : FVec F S4x16384x100x4 .f32 := broadcastInDim S4x16384x100x4 ![0, 1, 2, 3] bcast_S4x16384x1x4_S4x16384x100x4_0_1_2_3 main_v53
  let main_v56 : FVec F S4x16384x100x4 .f32 := broadcastInDim S4x16384x100x4 ![0, 1, 2, 3] bcast_S4x1x100x4_S4x16384x100x4_0_1_2_3 main_v54
  let main_v57 : FVec F S4x16384x100x4 .f32 := subf main_v55 main_v56
  fn_part3 (F := F) main_arg2 main_arg3 main_v9 main_v46 main_v57

def fn_part1 {F : FTy → Type} [FloatOps F] (main_arg2 : IVec S4x100 32) (main_arg3 : FVec F S4x100x4 .f32) (main_arg4 : FVec F S4x4 .f32) (main_arg5 : FVec F S4x100x4 .f32) (main_v7 : FVec F S4x16384x80 .f32) (main_v9 : FVec F S4x16384x4 .f32) (main_v13 : FVec F S4x16384x80 .f32) (main_v17 : FVec F S4x16384x80 .f32) : IVec S4x100 1 :=
  let main_v18 : FVec F S4x16384x80 .f32 := Host.log main_v17
  let main_v19 : FVec F S4x16384x80 .f32 := Host.negf main_v18
  let main_v20 : FVec F S4x16384x80 .f32 := mulf main_v13 main_v19
  let main_cst_5 : FVec F S_ .f32 := constant S_ .f32 0x3F800000#32
  let main_v21 : FVec F S4x16384x80 .f32 := broadcastInDim S4x16384x80 ![] bcast_S_S4x16384x80 main_cst_5
  let main_v22 : FVec F S4x16384x80 .f32 := subf main_v21 main_v7
  let main_cst_6 : FVec F S_ .f32 := constant S_ .f32 0x40000000#32
  let main_v23 : FVec F S4x16384x80 .f32 := broadcastInDim S4x16384x80 ![] bcast_S_S4x16384x80 main_cst_6
  let main_v24 : FVec F S4x16384x80 .f32 := Host.powf main_v22 main_v23
  let main_cst_7 : FVec F S_ .f32 := constant S_ .f32 0x3E800000#32
  let main_v25 : FVec F S4x16384x80 .f32 := broadcastInDim S4x16384x80 ![] bcast_S_S4x16384x80 main_cst_7
  let main_v26 : FVec F S4x16384x80 .f32 := mulf main_v25 main_v24
  let main_cst_8 : FVec F S_ .f32 := constant S_ .f32 0x322BCC77#32
  let main_v27 : FVec F S4x16384x80 .f32 := broadcastInDim S4x16384x80 ![] bcast_S_S4x16384x80 main_cst_8
  let main_v28 : FVec F S4x16384x80 .f32 := addf main_v7 main_v27
  let main_v29 : FVec F S4x16384x80 .f32 := Host.log main_v28
  let main_v30 : FVec F S4x16384x80 .f32 := Host.negf main_v29
  let main_v31 : FVec F S4x16384x80 .f32 := mulf main_v26 main_v30
  let main_c : IVec S_ 32 := constantI S_ 32 0#32
  let main_v32 : IVec S4x100 32 := broadcastInDim S4x100 ![] bcast_S_S4x100 main_c
  let main_v33 : IVec S4x100 1 := cmpi .slt main_arg2 main_v32
  let main_c_9 : IVec S_ 32 := constantI S_ 32 80#32
  let main_v34 : IVec S4x100 32 := broadcastInDim S4x100 ![] bcast_S_S4x100 main_c_9
  let main_v35 : IVec S4x100 32 := addi main_arg2 main_v34
  fn_part2 (F := F) main_arg2 main_arg3 main_arg4 main_arg5 main_v9 main_v20 main_v31 main_v33 main_v35

def fn {F : FTy → Type} [FloatOps F] (main_arg0 : FVec F S4x80x128x128 .f32) (main_arg1 : FVec F S4x4x128x128 .f32) (main_arg2 : IVec S4x100 32) (main_arg3 : FVec F S4x100x4 .f32) (main_arg4 : FVec F S4x4 .f32) (main_arg5 : FVec F S4x100x4 .f32) : IVec S4x100 1 :=
  let main_v0 : FVec F S4x128x128x80 .f32 := (transpose S4x128x128x80 [0, 2, 3, 1] · transposes_S4x80x128x128_S4x128x128x80_0_2_3_1) main_arg0
  let main_v1 : FVec F S4x16384x80 .f32 := shapeCast S4x16384x80 main_v0 shapeCasts_S4x128x128x80_S4x16384x80
  let main_v2 : FVec F S4x16384x80 .f32 := Host.negf main_v1
  let main_v3 : FVec F S4x16384x80 .f32 := Host.exp main_v2
  let main_cst : FVec F S_ .f32 := constant S_ .f32 0x3F800000#32
  let main_v4 : FVec F S4x16384x80 .f32 := broadcastInDim S4x16384x80 ![] bcast_S_S4x16384x80 main_cst
  let main_v5 : FVec F S4x16384x80 .f32 := addf main_v4 main_v3
  let main_cst_0 : FVec F S_ .f32 := constant S_ .f32 0x3F800000#32
  let main_v6 : FVec F S4x16384x80 .f32 := broadcastInDim S4x16384x80 ![] bcast_S_S4x16384x80 main_cst_0
  let main_v7 : FVec F S4x16384x80 .f32 := Host.divf main_v6 main_v5
  let main_v8 : FVec F S4x128x128x4 .f32 := (transpose S4x128x128x4 [0, 2, 3, 1] · transposes_S4x4x128x128_S4x128x128x4_0_2_3_1) main_arg1
  let main_v9 : FVec F S4x16384x4 .f32 := shapeCast S4x16384x4 main_v8 shapeCasts_S4x128x128x4_S4x16384x4
  let main_cst_1 : FVec F S_ .f32 := constant S_ .f32 0x40000000#32
  let main_v10 : FVec F S4x16384x80 .f32 := broadcastInDim S4x16384x80 ![] bcast_S_S4x16384x80 main_cst_1
  let main_v11 : FVec F S4x16384x80 .f32 := Host.powf main_v7 main_v10
  let main_cst_2 : FVec F S_ .f32 := constant S_ .f32 0x3F400000#32
  let main_v12 : FVec F S4x16384x80 .f32 := broadcastInDim S4x16384x80 ![] bcast_S_S4x16384x80 main_cst_2
  let main_v13 : FVec F S4x16384x80 .f32 := mulf main_v12 main_v11
  let main_cst_3 : FVec F S_ .f32 := constant S_ .f32 0x3F800000#32
  let main_v14 : FVec F S4x16384x80 .f32 := broadcastInDim S4x16384x80 ![] bcast_S_S4x16384x80 main_cst_3
  let main_v15 : FVec F S4x16384x80 .f32 := subf main_v14 main_v7
  let main_cst_4 : FVec F S_ .f32 := constant S_ .f32 0x322BCC77#32
  let main_v16 : FVec F S4x16384x80 .f32 := broadcastInDim S4x16384x80 ![] bcast_S_S4x16384x80 main_cst_4
  let main_v17 : FVec F S4x16384x80 .f32 := addf main_v15 main_v16
  fn_part1 (F := F) main_arg2 main_arg3 main_arg4 main_arg5 main_v7 main_v9 main_v13 main_v17
-- ==== Kernel.lean ====
abbrev S4x80x128x128 : Shape := ⟨4, ![4, 80, 128, 128]⟩
abbrev S4x4x128x128 : Shape := ⟨4, ![4, 4, 128, 128]⟩
abbrev S4x100 : Shape := ⟨2, ![4, 100]⟩
abbrev S4x100x4 : Shape := ⟨3, ![4, 100, 4]⟩
abbrev S4x4 : Shape := ⟨2, ![4, 4]⟩
abbrev S4x80x16384 : Shape := ⟨3, ![4, 80, 16384]⟩
abbrev S4x4x16384 : Shape := ⟨3, ![4, 4, 16384]⟩
abbrev S4x100x1 : Shape := ⟨3, ![4, 100, 1]⟩
abbrev S4x1x4 : Shape := ⟨3, ![4, 1, 4]⟩
abbrev S4x1x100 : Shape := ⟨3, ![4, 1, 100]⟩
abbrev S1x80x16384 : Shape := ⟨3, ![1, 80, 16384]⟩
abbrev S1x4x16384 : Shape := ⟨3, ![1, 4, 16384]⟩
abbrev S1x100x4 : Shape := ⟨3, ![1, 100, 4]⟩
abbrev S1x100x1 : Shape := ⟨3, ![1, 100, 1]⟩
abbrev S1x1x4 : Shape := ⟨3, ![1, 1, 4]⟩
abbrev S1x1x100 : Shape := ⟨3, ![1, 1, 100]⟩
abbrev S80x16384 : Shape := ⟨2, ![80, 16384]⟩
abbrev S100x1 : Shape := ⟨2, ![100, 1]⟩
abbrev S100x80 : Shape := ⟨2, ![100, 80]⟩
abbrev S100x16384 : Shape := ⟨2, ![100, 16384]⟩
abbrev S1x1x2048 : Shape := ⟨3, ![1, 1, 2048]⟩
abbrev S1x2048 : Shape := ⟨2, ![1, 2048]⟩
abbrev S1x1x1 : Shape := ⟨3, ![1, 1, 1]⟩
abbrev S1x1 : Shape := ⟨2, ![1, 1]⟩
abbrev S100x2048 : Shape := ⟨2, ![100, 2048]⟩
abbrev S100 : Shape := ⟨1, ![100]⟩
abbrev S1x100 : Shape := ⟨2, ![1, 100]⟩

abbrev nBuf : Space → Nat
  | .hbm => 15
  | .vmem => 14
  | .smem => 0
  | _ => 0

abbrev bufTy : (tb : Table) → Fin (tcTables nBuf tb) → BufTy
  | .hbm, ⟨0, _⟩ => ⟨S4x80x128x128, .f32⟩
  | .hbm, ⟨1, _⟩ => ⟨S4x4x128x128, .f32⟩
  | .hbm, ⟨2, _⟩ => ⟨S4x100, .i32⟩
  | .hbm, ⟨3, _⟩ => ⟨S4x100x4, .f32⟩
  | .hbm, ⟨4, _⟩ => ⟨S4x4, .f32⟩
  | .hbm, ⟨5, _⟩ => ⟨S4x100x4, .f32⟩
  | .hbm, ⟨6, _⟩ => ⟨S4x80x16384, .f32⟩
  | .hbm, ⟨7, _⟩ => ⟨S4x4x16384, .f32⟩
  | .hbm, ⟨8, _⟩ => ⟨S4x100x1, .i32⟩
  | .hbm, ⟨9, _⟩ => ⟨S4x1x4, .f32⟩
  | .hbm, ⟨10, _⟩ => ⟨S4x1x100, .i32⟩
  | .hbm, ⟨11, _⟩ => ⟨S4x100, .i32⟩
  | .hbm, ⟨12, _⟩ => ⟨S100, .i32⟩
  | .hbm, ⟨13, _⟩ => ⟨S1x100, .i32⟩
  | .hbm, ⟨14, _⟩ => ⟨S4x100, .i32⟩
  | .local _ .vmem, ⟨0, _⟩ => ⟨S1x80x16384, .f32⟩
  | .local _ .vmem, ⟨1, _⟩ => ⟨S1x80x16384, .f32⟩
  | .local _ .vmem, ⟨2, _⟩ => ⟨S1x4x16384, .f32⟩
  | .local _ .vmem, ⟨3, _⟩ => ⟨S1x4x16384, .f32⟩
  | .local _ .vmem, ⟨4, _⟩ => ⟨S1x100x4, .f32⟩
  | .local _ .vmem, ⟨5, _⟩ => ⟨S1x100x4, .f32⟩
  | .local _ .vmem, ⟨6, _⟩ => ⟨S1x100x1, .i32⟩
  | .local _ .vmem, ⟨7, _⟩ => ⟨S1x100x1, .i32⟩
  | .local _ .vmem, ⟨8, _⟩ => ⟨S1x1x4, .f32⟩
  | .local _ .vmem, ⟨9, _⟩ => ⟨S1x1x4, .f32⟩
  | .local _ .vmem, ⟨10, _⟩ => ⟨S1x100x4, .f32⟩
  | .local _ .vmem, ⟨11, _⟩ => ⟨S1x100x4, .f32⟩
  | .local _ .vmem, ⟨12, _⟩ => ⟨S1x1x100, .i32⟩
  | .local _ .vmem, ⟨13, _⟩ => ⟨S1x1x100, .i32⟩
  | _, _ => ⟨S4x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x100x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x100x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x100 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x80x128x128 : Shape := ⟨4, ![4, 80, 128, 128]⟩
abbrev S4x4x128x128 : Shape := ⟨4, ![4, 4, 128, 128]⟩
abbrev S4x100 : Shape := ⟨2, ![4, 100]⟩
abbrev S4x100x4 : Shape := ⟨3, ![4, 100, 4]⟩
abbrev S4x4 : Shape := ⟨2, ![4, 4]⟩
abbrev S4x128x128x80 : Shape := ⟨4, ![4, 128, 128, 80]⟩
abbrev S4x16384x80 : Shape := ⟨3, ![4, 16384, 80]⟩
abbrev S_ : Shape := ⟨0, ![]⟩
abbrev S4x128x128x4 : Shape := ⟨4, ![4, 128, 128, 4]⟩
abbrev S4x16384x4 : Shape := ⟨3, ![4, 16384, 4]⟩
abbrev S4x100x1 : Shape := ⟨3, ![4, 100, 1]⟩
abbrev S4x16384x100 : Shape := ⟨3, ![4, 16384, 100]⟩
abbrev S4x1x4 : Shape := ⟨3, ![4, 1, 4]⟩
abbrev S1x4x1x1x1x4 : Shape := ⟨6, ![1, 4, 1, 1, 1, 4]⟩
abbrev S1x4x16384x1x1x4 : Shape := ⟨6, ![1, 4, 16384, 1, 1, 4]⟩
abbrev S4x16384x1x4 : Shape := ⟨4, ![4, 16384, 1, 4]⟩
abbrev S4x1x100x4 : Shape := ⟨4, ![4, 1, 100, 4]⟩
abbrev S4x16384x100x4 : Shape := ⟨4, ![4, 16384, 100, 4]⟩
abbrev S4x16384x1 : Shape := ⟨3, ![4, 16384, 1]⟩
abbrev S4x16384 : Shape := ⟨2, ![4, 16384]⟩
abbrev S4x16384x2 : Shape := ⟨3, ![4, 16384, 2]⟩
abbrev S4x16384x1x2 : Shape := ⟨4, ![4, 16384, 1, 2]⟩
abbrev S4x100x2 : Shape := ⟨3, ![4, 100, 2]⟩
abbrev S4x1x100x2 : Shape := ⟨4, ![4, 1, 100, 2]⟩
abbrev S4x16384x100x2 : Shape := ⟨4, ![4, 16384, 100, 2]⟩
abbrev S4x16384x100x1 : Shape := ⟨4, ![4, 16384, 100, 1]⟩
abbrev S4x1x100 : Shape := ⟨3, ![4, 1, 100]⟩
abbrev S100 : Shape := ⟨1, ![100]⟩
abbrev S1x100 : Shape := ⟨2, ![1, 100]⟩
abbrev S1x1x1x100 : Shape := ⟨4, ![1, 1, 1, 100]⟩
abbrev S4x1x1x100 : Shape := ⟨4, ![4, 1, 1, 100]⟩

abbrev nBuf : Space → Nat
  | .hbm => 183
  | .vmem => 0
  | .smem => 0
  | _ => 0

abbrev hbmTy0_0 (i : Nat) : BufTy := match i % 128 with
  | 0 => ⟨S4x80x128x128, .f32⟩
  | 1 => ⟨S4x4x128x128, .f32⟩
  | 2 => ⟨S4x100, .i32⟩
  | 3 => ⟨S4x100x4, .f32⟩
  | 4 => ⟨S4x4, .f32⟩
  | 5 => ⟨S4x100x4, .f32⟩
  | 6 => ⟨S4x128x128x80, .f32⟩
  | 7 => ⟨S4x16384x80, .f32⟩
  | 8 => ⟨S4x16384x80, .f32⟩
  | 9 => ⟨S4x16384x80, .f32⟩
  | 10 => ⟨S_, .f32⟩
  | 11 => ⟨S4x16384x80, .f32⟩
  | 12 => ⟨S4x16384x80, .f32⟩
  | 13 => ⟨S_, .f32⟩
  | 14 => ⟨S4x16384x80, .f32⟩
  | 15 => ⟨S4x16384x80, .f32⟩
  | 16 => ⟨S4x128x128x4, .f32⟩
  | 17 => ⟨S4x16384x4, .f32⟩
  | 18 => ⟨S_, .f32⟩
  | 19 => ⟨S4x16384x80, .f32⟩
  | 20 => ⟨S4x16384x80, .f32⟩
  | 21 => ⟨S_, .f32⟩
  | 22 => ⟨S4x16384x80, .f32⟩
  | 23 => ⟨S4x16384x80, .f32⟩
  | 24 => ⟨S_, .f32⟩
  | 25 => ⟨S4x16384x80, .f32⟩
  | 26 => ⟨S4x16384x80, .f32⟩
  | 27 => ⟨S_, .f32⟩
  | 28 => ⟨S4x16384x80, .f32⟩
  | 29 => ⟨S4x16384x80, .f32⟩
  | 30 => ⟨S4x16384x80, .f32⟩
  | 31 => ⟨S4x16384x80, .f32⟩
  | 32 => ⟨S4x16384x80, .f32⟩
  | 33 => ⟨S_, .f32⟩
  | 34 => ⟨S4x16384x80, .f32⟩
  | 35 => ⟨S4x16384x80, .f32⟩
  | 36 => ⟨S_, .f32⟩
  | 37 => ⟨S4x16384x80, .f32⟩
  | 38 => ⟨S4x16384x80, .f32⟩
  | 39 => ⟨S_, .f32⟩
  | 40 => ⟨S4x16384x80, .f32⟩
  | 41 => ⟨S4x16384x80, .f32⟩
  | 42 => ⟨S_, .f32⟩
  | 43 => ⟨S4x16384x80, .f32⟩
  | 44 => ⟨S4x16384x80, .f32⟩
  | 45 => ⟨S4x16384x80, .f32⟩
  | 46 => ⟨S4x16384x80, .f32⟩
  | 47 => ⟨S4x16384x80, .f32⟩
  | 48 => ⟨S_, .i32⟩
  | 49 => ⟨S4x100, .i32⟩
  | 50 => ⟨S4x100, .i1⟩
  | 51 => ⟨S_, .i32⟩
  | 52 => ⟨S4x100, .i32⟩
  | 53 => ⟨S4x100, .i32⟩
  | 54 => ⟨S4x100, .i32⟩
  | 55 => ⟨S4x100x1, .i32⟩
  | 56 => ⟨S4x16384x100, .f32⟩
  | 57 => ⟨S_, .i32⟩
  | 58 => ⟨S4x100, .i32⟩
  | 59 => ⟨S4x100, .i1⟩
  | 60 => ⟨S_, .i32⟩
  | 61 => ⟨S4x100, .i32⟩
  | 62 => ⟨S4x100, .i32⟩
  | 63 => ⟨S4x100, .i32⟩
  | 64 => ⟨S4x100x1, .i32⟩
  | 65 => ⟨S4x16384x100, .f32⟩
  | 66 => ⟨S4x16384x100, .f32⟩
  | 67 => ⟨S4x1x4, .f32⟩
  | 68 => ⟨S1x4x1x1x1x4, .f32⟩
  | 69 => ⟨S1x4x16384x1x1x4, .f32⟩
  | 70 => ⟨S4x16384x4, .f32⟩
  | 71 => ⟨S4x16384x4, .f32⟩
  | 72 => ⟨S4x100x4, .f32⟩
  | 73 => ⟨S4x16384x1x4, .f32⟩
  | 74 => ⟨S4x1x100x4, .f32⟩
  | 75 => ⟨S4x16384x100x4, .f32⟩
  | 76 => ⟨S4x16384x100x4, .f32⟩
  | 77 => ⟨S4x16384x100x4, .f32⟩
  | 78 => ⟨S4x16384x100x4, .f32⟩
  | 79 => ⟨S_, .f32⟩
  | 80 => ⟨S4x16384x100, .f32⟩
  | 81 => ⟨S4x16384x1, .f32⟩
  | 82 => ⟨S4x16384, .f32⟩
  | 83 => ⟨S4x16384x1, .f32⟩
  | 84 => ⟨S4x16384, .f32⟩
  | 85 => ⟨S4x16384, .f32⟩
  | 86 => ⟨S4x16384x1, .f32⟩
  | 87 => ⟨S4x16384, .f32⟩
  | 88 => ⟨S4x16384x1, .f32⟩
  | 89 => ⟨S4x16384, .f32⟩
  | 90 => ⟨S4x16384, .f32⟩
  | 91 => ⟨S4x16384, .f32⟩
  | 92 => ⟨S4x100x1, .f32⟩
  | 93 => ⟨S4x100, .f32⟩
  | 94 => ⟨S4x100x1, .f32⟩
  | 95 => ⟨S4x100, .f32⟩
  | 96 => ⟨S4x100, .f32⟩
  | 97 => ⟨S4x100x1, .f32⟩
  | 98 => ⟨S4x100, .f32⟩
  | 99 => ⟨S4x100x1, .f32⟩
  | 100 => ⟨S4x100, .f32⟩
  | 101 => ⟨S4x100, .f32⟩
  | 102 => ⟨S4x100, .f32⟩
  | 103 => ⟨S4x16384x2, .f32⟩
  | 104 => ⟨S4x16384x1x2, .f32⟩
  | 105 => ⟨S4x100x2, .f32⟩
  | 106 => ⟨S4x1x100x2, .f32⟩
  | 107 => ⟨S4x16384x100x2, .f32⟩
  | 108 => ⟨S4x16384x100x2, .f32⟩
  | 109 => ⟨S4x16384x100x2, .f32⟩
  | 110 => ⟨S4x16384x2, .f32⟩
  | 111 => ⟨S4x16384x1x2, .f32⟩
  | 112 => ⟨S4x100x2, .f32⟩
  | 113 => ⟨S4x1x100x2, .f32⟩
  | 114 => ⟨S4x16384x100x2, .f32⟩
  | 115 => ⟨S4x16384x100x2, .f32⟩
  | 116 => ⟨S4x16384x100x2, .f32⟩
  | 117 => ⟨S4x16384x100x2, .f32⟩
  | 118 => ⟨S_, .f32⟩
  | 119 => ⟨S_, .f32⟩
  | 120 => ⟨S4x16384x100x2, .f32⟩
  | 121 => ⟨S4x16384x100x2, .f32⟩
  | 122 => ⟨S4x16384x100x1, .f32⟩
  | 123 => ⟨S4x16384x100, .f32⟩
  | 124 => ⟨S4x16384x100x1, .f32⟩
  | 125 => ⟨S4x16384x100, .f32⟩
  | 126 => ⟨S4x16384x100, .f32⟩
  | 127 => ⟨S4x16384x1, .f32⟩
  | _ => ⟨S4x80x128x128, .f32⟩

abbrev hbmTy0_1 (i : Nat) : BufTy := match i % 128 with
  | 0 => ⟨S4x1x100, .f32⟩
  | 1 => ⟨S4x16384x100, .f32⟩
  | 2 => ⟨S4x16384x100, .f32⟩
  | 3 => ⟨S4x16384x100, .f32⟩
  | 4 => ⟨S4x16384x100, .f32⟩
  | 5 => ⟨S4x16384x100, .f32⟩
  | 6 => ⟨S4x16384x2, .f32⟩
  | 7 => ⟨S4x16384x1x2, .f32⟩
  | 8 => ⟨S4x100x2, .f32⟩
  | 9 => ⟨S4x1x100x2, .f32⟩
  | 10 => ⟨S4x16384x100x2, .f32⟩
  | 11 => ⟨S4x16384x100x2, .f32⟩
  | 12 => ⟨S4x16384x100x2, .f32⟩
  | 13 => ⟨S4x16384x2, .f32⟩
  | 14 => ⟨S4x16384x1x2, .f32⟩
  | 15 => ⟨S4x100x2, .f32⟩
  | 16 => ⟨S4x1x100x2, .f32⟩
  | 17 => ⟨S4x16384x100x2, .f32⟩
  | 18 => ⟨S4x16384x100x2, .f32⟩
  | 19 => ⟨S4x16384x100x2, .f32⟩
  | 20 => ⟨S4x16384x100x2, .f32⟩
  | 21 => ⟨S_, .f32⟩
  | 22 => ⟨S_, .f32⟩
  | 23 => ⟨S4x16384x100x2, .f32⟩
  | 24 => ⟨S4x16384x100x2, .f32⟩
  | 25 => ⟨S4x16384x100x1, .f32⟩
  | 26 => ⟨S4x16384x100, .f32⟩
  | 27 => ⟨S4x16384x100x1, .f32⟩
  | 28 => ⟨S4x16384x100, .f32⟩
  | 29 => ⟨S4x16384x100, .f32⟩
  | 30 => ⟨S4x16384x100, .f32⟩
  | 31 => ⟨S4x16384x100, .f32⟩
  | 32 => ⟨S4x16384x100, .f32⟩
  | 33 => ⟨S4x16384x100, .f32⟩
  | 34 => ⟨S_, .f32⟩
  | 35 => ⟨S4x16384x100, .f32⟩
  | 36 => ⟨S4x16384x100, .f32⟩
  | 37 => ⟨S_, .f32⟩
  | 38 => ⟨S4x16384x100, .f32⟩
  | 39 => ⟨S4x16384x100, .f32⟩
  | 40 => ⟨S4x16384x100, .f32⟩
  | 41 => ⟨S_, .f32⟩
  | 42 => ⟨S4x16384x100, .f32⟩
  | 43 => ⟨S4x16384x100, .f32⟩
  | 44 => ⟨S4x16384x100, .f32⟩
  | 45 => ⟨S4x16384x100, .i32⟩
  | 46 => ⟨S_, .f32⟩
  | 47 => ⟨S_, .i32⟩
  | 48 => ⟨S4x100, .f32⟩
  | 49 => ⟨S4x100, .i32⟩
  | 50 => ⟨S100, .i32⟩
  | 51 => ⟨S1x100, .i32⟩
  | 52 => ⟨S1x1x1x100, .i32⟩
  | 53 => ⟨S4x1x1x100, .i32⟩
  | 54 => ⟨S4x100, .i32⟩
  | _ => ⟨S4x80x128x128, .f32⟩

abbrev hbmTy (i : Nat) : BufTy := match i / 128 with
  | 0 => hbmTy0_0 i
  | 1 => hbmTy0_1 i
  | _ => ⟨S4x80x128x128, .f32⟩

abbrev bufTy : (tb : Table) → Fin (tcTables nBuf tb) → BufTy
  | .hbm, ⟨i, _⟩ => hbmTy i
  | _, _ => ⟨S4x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_c_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_13 : Ref sig .tc := ⟨.hbm, 118, rfl⟩
abbrev main_call0_v0 : Ref sig .tc := ⟨.hbm, 119, rfl⟩
abbrev main_call0_v1 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_14 : Ref sig .tc := ⟨.hbm, 149, rfl⟩
abbrev main_call1_v0 : Ref sig .tc := ⟨.hbm, 150, rfl⟩
abbrev main_call1_v1 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_15 : Ref sig .tc := ⟨.hbm, 162, rfl⟩
abbrev main_v135 : Ref sig .tc := ⟨.hbm, 163, rfl⟩
abbrev main_v136 : Ref sig .tc := ⟨.hbm, 164, rfl⟩
abbrev main_cst_16 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_17 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_call2_v0 : Ref sig .tc := ⟨.hbm, 173, rfl⟩
abbrev main_call2_cst : Ref sig .tc := ⟨.hbm, 174, rfl⟩
abbrev main_call2_c : Ref sig .tc := ⟨.hbm, 175, rfl⟩
abbrev main_call2_v1_0 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩

abbrev nD : Nat := 1
abbrev τ : Topo := Topo.v7x

variable {F : FTy → Type} [FloatOps F]
-- ==== Proof.RefRun.lean ====
/-
  The reference's run: its host operations as one list, read off the printed program, and what the run leaves in
  every buffer, as the list applied to the launch contents.
-/
module

public import proofs.«01_k».proof.Defs
public import proofs.«01_k».proof.Proof.Gen.ReferenceIdeal
public import proofs.«01_k».proof.Proof.Gen.Pre_admissible
public import Idealize.ShloMosaic.Lib.Claim
public import Idealize.ShloMosaic.Lib.StableHlo.RunHlo
public import Idealize.ShloMosaic.Lib.StableHlo.ReadAt

@[expose] public section

set_option maxRecDepth 16384

noncomputable section

namespace Cert.Ref

open Idealize.ShloMosaic Idealize.SL.Sem Cert.ReferenceIdeal Cert.ReferenceIdeal.Gen

local notation "Line" => List (HloOp τ sig (Elt Ideal))

/-- A straight line that ends at its last operation, with no return after it. -/
theorem isSeq_last (op : HloOp τ sig (Elt Ideal)) :
    StableHlo.IsSeq (nD := nD) (Λ := Pipeline.Sig Λ₀ (Fin 0) fun p => (pcfgs (F := Ideal) p).Adm)
      (hlo rfl op fun _ => .ret (⟨⟩ : PUnit)) [op] := rfl

/-- Two straight lines one after the other are their lists appended. -/
theorem isSeq_append {p k : Prog (TpuEff nD τ sig (Elt Ideal) (Pipeline.Sig Λ₀ (Fin 0) fun p => (pcfgs (F := Ideal) p).Adm) .tc) PUnit}
    {l₁ l₂ : Line} (h₁ : StableHlo.IsSeq p l₁) (h₂ : StableHlo.IsSeq k l₂) :
    StableHlo.IsSeq (p >>= fun _ => k) (l₁ ++ l₂) := by
  unfold StableHlo.IsSeq at *
  rw [StableHlo.seq_append, h₁, h₂]

/-- The clip function's body is a straight line. -/
def clipLine (a : StableHlo.TRef sig ⟨S4x16384x100x2, .f32⟩) (b : StableHlo.TRef sig ⟨S_, .f32⟩) (φ : fn_clip.Bufs) :
    {ops : Line // StableHlo.IsSeq (fn_clip.body (F := Ideal) a b φ) ops} := by
  apply Subtype.mk
  unfold fn_clip.body
  hlo_seq

/-- The arg-min function's body is a straight line. -/
def argminLine (a : StableHlo.TRef sig ⟨S4x16384x100, .f32⟩) (φ : fn_argmin.Bufs) :
    {ops : Line // StableHlo.IsSeq (fn_argmin.body (F := Ideal) a φ) ops} := by
  apply Subtype.mk
  unfold fn_argmin.body
  hlo_seq

/-- The first sixty statements as a list. -/
def line0 : {ops : Line // ∀ d : Dev nD, StableHlo.IsSeq (main_part0 (F := Ideal) d) ops} := by
  apply Subtype.mk
  intro d
  unfold main_part0
  repeat (first | exact isSeq_last _ | apply StableHlo.IsSeq.cons)

/-- The next sixty, the first clip among them. -/
def line1 : {ops : Line // ∀ d : Dev nD, StableHlo.IsSeq (main_part1 (F := Ideal) d) ops} := by
  apply Subtype.mk
  intro d
  unfold main_part1
  repeat (first | exact isSeq_last _ | apply isSeq_append (clipLine _ _ _).2 | apply StableHlo.IsSeq.cons)

/-- The last fifty, the second clip and the arg-min among them. -/
def line2 : {ops : Line // ∀ d : Dev nD, StableHlo.IsSeq (main_part2 (F := Ideal) d) ops} := by
  apply Subtype.mk
  intro d
  unfold main_part2
  repeat (first | exact StableHlo.IsSeq.nil | apply isSeq_append (clipLine _ _ _).2 | apply isSeq_append (argminLine _ _).2 | apply StableHlo.IsSeq.cons)

/-- The reference's operations in order. -/
def line : Line := line0.1 ++ (line1.1 ++ line2.1)

theorem line_seq (d : Dev nD) : StableHlo.IsSeq (main (F := Ideal) d) line :=
  isSeq_append (line0.2 d) (isSeq_append (line1.2 d) (line2.2 d))

/-- The reference ends, every buffer holding what the operations leave from the launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after line (StableHlo.launchContents m d) (Proc.devRef .tc b) :=
  StableHlo.run_hlo _ _ line_seq (by decide) (by decide)
    (by simp [line, line0, line1, line2, clipLine, argminLine])
    (by
      intro op h
      simp only [line, line0, line1, line2, clipLine, argminLine, List.cons_append, List.nil_append] at h
      (repeat (cases h with | head => rfl | tail _ h => ?_)); exact nomatch h) _ _

end Cert.Ref

end
-- ==== Proof.RefCut.lean ====
/-
  The reference's line of operations cut into nine stretches, and the arrays each stretch leaves as they were.
-/
module

public import proofs.«01_k».proof.Proof.RefRun

@[expose] public section

set_option maxRecDepth 16384

noncomputable section

namespace Cert.Ref

open Idealize.ShloMosaic Idealize.SL.Sem Cert.ReferenceIdeal Cert.ReferenceIdeal.Gen

local notation "Line" => List (HloOp τ sig (Elt Ideal))

variable (V : Idealize.ShloMosaic.Valuation τ sig (Elt Ideal))

/-- The probabilities and the boxes laid out. -/
def cut0 : Line := line0.1.take 12
/-- The two focal terms. -/
def cut1 : Line := (line0.1.drop 12).take 30
/-- The terms of the labels' classes. -/
def cut2 : Line := line0.1.drop 42
/-- The distances. -/
def cut3 : Line := line1.1.take 15
/-- The boxes' areas. -/
def cut4 : Line := (line1.1.drop 15).take 22
/-- The shared areas. -/
def cut5 : Line := line1.1.drop 37
/-- The generalized intersections over unions. -/
def cut6 : Line := line2.1.take 34
/-- The costs. -/
def cut7 : Line := (line2.1.drop 34).take 11
/-- The arg-min and the targets' numbers. -/
def cut8 : Line := line2.1.drop 45

/-- What the whole line leaves is what the nine stretches leave one after the other. -/
theorem after_line : StableHlo.after line V
    = StableHlo.after cut8 (StableHlo.after cut7 (StableHlo.after cut6 (StableHlo.after cut5 (StableHlo.after cut4
        (StableHlo.after cut3 (StableHlo.after cut2 (StableHlo.after cut1 (StableHlo.after cut0 V)))))))) := by
  have e3 : ∀ (l : Line) (p q : ℕ), l = l.take p ++ ((l.drop p).take q ++ l.drop (p + q)) := fun l p q => by
    rw [← List.drop_drop, List.take_append_drop, List.take_append_drop]
  have e : line = (cut0 ++ (cut1 ++ cut2)) ++ ((cut3 ++ (cut4 ++ cut5)) ++ (cut6 ++ (cut7 ++ cut8))) :=
    congrArg₂ _ (e3 line0.1 12 30) (congrArg₂ _ (e3 line1.1 15 22) (e3 line2.1 34 11))
  rw [e]
  simp only [StableHlo.after_append]

/-- The first stretch leaves this array as it was. -/
theorem keep0_arg2 : StableHlo.after cut0 V (Proc.devRef .tc main_arg2) = V (Proc.devRef .tc main_arg2) := by
  unfold cut0
  after_reads_simp

/-- The first stretch leaves this array as it was. -/
theorem keep0_arg3 : StableHlo.after cut0 V (Proc.devRef .tc main_arg3) = V (Proc.devRef .tc main_arg3) := by
  unfold cut0
  after_reads_simp

/-- The first stretch leaves this array as it was. -/
theorem keep0_arg4 : StableHlo.after cut0 V (Proc.devRef .tc main_arg4) = V (Proc.devRef .tc main_arg4) := by
  unfold cut0
  after_reads_simp

/-- The first stretch leaves this array as it was. -/
theorem keep0_arg5 : StableHlo.after cut0 V (Proc.devRef .tc main_arg5) = V (Proc.devRef .tc main_arg5) := by
  unfold cut0
  after_reads_simp

/-- The second stretch leaves this array as it was. -/
theorem keep1_arg2 : StableHlo.after cut1 V (Proc.devRef .tc main_arg2) = V (Proc.devRef .tc main_arg2) := by
  unfold cut1
  after_reads_simp

/-- The second stretch leaves this array as it was. -/
theorem keep1_arg3 : StableHlo.after cut1 V (Proc.devRef .tc main_arg3) = V (Proc.devRef .tc main_arg3) := by
  unfold cut1
  after_reads_simp

/-- The second stretch leaves this array as it was. -/
theorem keep1_arg4 : StableHlo.after cut1 V (Proc.devRef .tc main_arg4) = V (Proc.devRef .tc main_arg4) := by
  unfold cut1
  after_reads_simp

/-- The second stretch leaves this array as it was. -/
theorem keep1_arg5 : StableHlo.after cut1 V (Proc.devRef .tc main_arg5) = V (Proc.devRef .tc main_arg5) := by
  unfold cut1
  after_reads_simp

/-- The second stretch leaves this array as it was. -/
theorem keep1_v9 : StableHlo.after cut1 V (Proc.devRef .tc main_v9) = V (Proc.devRef .tc main_v9) := by
  unfold cut1
  after_reads_simp

/-- The third stretch leaves this array as it was. -/
theorem keep2_arg3 : StableHlo.after cut2 V (Proc.devRef .tc main_arg3) = V (Proc.devRef .tc main_arg3) := by
  unfold cut2
  after_reads_simp

/-- The third stretch leaves this array as it was. -/
theorem keep2_arg4 : StableHlo.after cut2 V (Proc.devRef .tc main_arg4) = V (Proc.devRef .tc main_arg4) := by
  unfold cut2
  after_reads_simp

/-- The third stretch leaves this array as it was. -/
theorem keep2_arg5 : StableHlo.after cut2 V (Proc.devRef .tc main_arg5) = V (Proc.devRef .tc main_arg5) := by
  unfold cut2
  after_reads_simp

/-- The third stretch leaves this array as it was. -/
theorem keep2_v9 : StableHlo.after cut2 V (Proc.devRef .tc main_v9) = V (Proc.devRef .tc main_v9) := by
  unfold cut2
  after_reads_simp

/-- The fourth stretch leaves this array as it was. -/
theorem keep3_arg3 : StableHlo.after cut3 V (Proc.devRef .tc main_arg3) = V (Proc.devRef .tc main_arg3) := by
  unfold cut3
  after_reads_simp

/-- The fourth stretch leaves this array as it was. -/
theorem keep3_v9 : StableHlo.after cut3 V (Proc.devRef .tc main_v9) = V (Proc.devRef .tc main_v9) := by
  unfold cut3
  after_reads_simp

/-- The fifth stretch leaves this array as it was. -/
theorem keep4_arg3 : StableHlo.after cut4 V (Proc.devRef .tc main_arg3) = V (Proc.devRef .tc main_arg3) := by
  unfold cut4
  after_reads_simp

/-- The fifth stretch leaves this array as it was. -/
theorem keep4_v9 : StableHlo.after cut4 V (Proc.devRef .tc main_v9) = V (Proc.devRef .tc main_v9) := by
  unfold cut4
  after_reads_simp

/-- The fifth stretch leaves this array as it was. -/
theorem keep4_v59 : StableHlo.after cut4 V (Proc.devRef .tc main_v59) = V (Proc.devRef .tc main_v59) := by
  unfold cut4
  after_reads_simp

/-- The fifth stretch leaves this array as it was. -/
theorem keep4_v46 : StableHlo.after cut4 V (Proc.devRef .tc main_v46) = V (Proc.devRef .tc main_v46) := by
  unfold cut4
  after_reads_simp

/-- The sixth stretch leaves this array as it was. -/
theorem keep5_arg3 : StableHlo.after cut5 V (Proc.devRef .tc main_arg3) = V (Proc.devRef .tc main_arg3) := by
  unfold cut5
  after_reads_simp

/-- The sixth stretch leaves this array as it was. -/
theorem keep5_v9 : StableHlo.after cut5 V (Proc.devRef .tc main_v9) = V (Proc.devRef .tc main_v9) := by
  unfold cut5
  after_reads_simp

/-- The sixth stretch leaves this array as it was. -/
theorem keep5_v59 : StableHlo.after cut5 V (Proc.devRef .tc main_v59) = V (Proc.devRef .tc main_v59) := by
  unfold cut5
  after_reads_simp

/-- The sixth stretch leaves this array as it was. -/
theorem keep5_v46 : StableHlo.after cut5 V (Proc.devRef .tc main_v46) = V (Proc.devRef .tc main_v46) := by
  unfold cut5
  after_reads_simp

/-- The sixth stretch leaves this array as it was. -/
theorem keep5_v81 : StableHlo.after cut5 V (Proc.devRef .tc main_v81) = V (Proc.devRef .tc main_v81) := by
  unfold cut5
  after_reads_simp

/-- The seventh stretch leaves this array as it was. -/
theorem keep6_v59 : StableHlo.after cut6 V (Proc.devRef .tc main_v59) = V (Proc.devRef .tc main_v59) := by
  unfold cut6
  after_reads_simp

/-- The seventh stretch leaves this array as it was. -/
theorem keep6_v46 : StableHlo.after cut6 V (Proc.devRef .tc main_v46) = V (Proc.devRef .tc main_v46) := by
  unfold cut6
  after_reads_simp

end Cert.Ref

end
-- ==== Proof.RefFrame.lean ====
/-
  The reference leaves its arguments as they were: stretch by stretch, then the whole line, then the run.
-/
module

public import proofs.«01_k».proof.Proof.RefCut
public import Idealize.ShloMosaic.Lib.Quiescent

@[expose] public section

set_option maxRecDepth 16384

noncomputable section

namespace Cert.Ref

open Idealize.ShloMosaic Idealize.SL.Sem Cert.ReferenceIdeal Cert.ReferenceIdeal.Gen

variable (V : Idealize.ShloMosaic.Valuation τ sig (Elt Ideal))

/-- Two contents agree on the six arguments. -/
def Kept (V W : Idealize.ShloMosaic.Valuation τ sig (Elt Ideal)) : Prop :=
  W (Proc.devRef .tc main_arg0) = V (Proc.devRef .tc main_arg0)
    ∧ W (Proc.devRef .tc main_arg1) = V (Proc.devRef .tc main_arg1)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)
    ∧ W (Proc.devRef .tc main_arg5) = V (Proc.devRef .tc main_arg5)

theorem Kept.trans {V W X : Idealize.ShloMosaic.Valuation τ sig (Elt Ideal)} (h : Kept V W) (h' : Kept W X) : Kept V X :=
  ⟨h'.1.trans h.1, h'.2.1.trans h.2.1, h'.2.2.1.trans h.2.2.1, h'.2.2.2.1.trans h.2.2.2.1, h'.2.2.2.2.1.trans h.2.2.2.2.1,
    h'.2.2.2.2.2.trans h.2.2.2.2.2⟩

/-- The first stretch leaves the arguments as they were. -/
theorem kept0 : Kept V (StableHlo.after cut0 V) := by
  unfold Kept cut0
  refine ⟨?_, ?_, ?_, ?_, ?_, ?_⟩ <;> after_reads_simp

/-- The second stretch leaves the arguments as they were. -/
theorem kept1 : Kept V (StableHlo.after cut1 V) := by
  unfold Kept cut1
  refine ⟨?_, ?_, ?_, ?_, ?_, ?_⟩ <;> after_reads_simp

/-- The third stretch leaves the arguments as they were. -/
theorem kept2 : Kept V (StableHlo.after cut2 V) := by
  unfold Kept cut2
  refine ⟨?_, ?_, ?_, ?_, ?_, ?_⟩ <;> after_reads_simp

/-- The fourth stretch leaves the arguments as they were. -/
theorem kept3 : Kept V (StableHlo.after cut3 V) := by
  unfold Kept cut3
  refine ⟨?_, ?_, ?_, ?_, ?_, ?_⟩ <;> after_reads_simp

/-- The fifth stretch leaves the arguments as they were. -/
theorem kept4 : Kept V (StableHlo.after cut4 V) := by
  unfold Kept cut4
  refine ⟨?_, ?_, ?_, ?_, ?_, ?_⟩ <;> after_reads_simp

/-- The sixth stretch leaves the arguments as they were. -/
theorem kept5 : Kept V (StableHlo.after cut5 V) := by
  unfold Kept cut5
  refine ⟨?_, ?_, ?_, ?_, ?_, ?_⟩ <;> after_reads_simp

/-- The seventh stretch leaves the arguments as they were. -/
theorem kept6 : Kept V (StableHlo.after cut6 V) := by
  unfold Kept cut6
  refine ⟨?_, ?_, ?_, ?_, ?_, ?_⟩ <;> after_reads_simp

/-- The eighth stretch leaves the arguments as they were. -/
theorem kept7 : Kept V (StableHlo.after cut7 V) := by
  unfold Kept cut7
  refine ⟨?_, ?_, ?_, ?_, ?_, ?_⟩ <;> after_reads_simp

/-- The ninth stretch leaves the arguments as they were. -/
theorem kept8 : Kept V (StableHlo.after cut8 V) := by
  unfold Kept cut8
  refine ⟨?_, ?_, ?_, ?_, ?_, ?_⟩ <;> after_reads_simp

/-- The whole line leaves the arguments as they were. -/
theorem kept : Kept V (StableHlo.after line V) := by
  rw [after_line]
  exact ((((((((kept0 _).trans (kept1 _)).trans (kept2 _)).trans (kept3 _)).trans (kept4 _)).trans (kept5 _)).trans (kept6 _)).trans
    (kept7 _)).trans (kept8 _)

variable (m : (ℓ : Loc nD τ sig) → Buf (Elt Ideal) ℓ) (ρ : Dev nD → PrngReg)

/-- The reference runs, its arguments end unchanged and its semaphores (it has none) at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, sem_eq_zero_of_no_sems rfl _⟩) (run m ρ)
  obtain ⟨k0, k1, k2, k3, k4, k5⟩ := kept (StableHlo.launchContents m c)
  exact ⟨(h c _).trans k0, (h c _).trans k1, (h c _).trans k2, (h c _).trans k3, (h c _).trans k4, (h c _).trans k5⟩

end Cert.Ref

end
-- ==== Proof.Spec.lean ====
/-
  The cost of matching one prediction with one target, on the extended reals: what the kernel and the reference both
  compute, element by element, and the arithmetic the two sides differ by.
-/
module

public import Idealize.ShloMosaic.Lib.Pointwise

@[expose] public section

noncomputable section

namespace Cert.Spec

open Idealize.ShloMosaic

/-- The focal classification cost of a logit: the positive term less the negative one. -/
def focal (x : EReal) : EReal :=
  Ideal.ofBits .f32 0x3E800000#32 * Ideal.pow (1 - Ideal.logistic x) (Ideal.ofBits .f32 0x40000000#32)
      * -Ideal.log (Ideal.logistic x + Ideal.ofBits .f32 0x322BCC77#32)
    - Ideal.ofBits .f32 0x3F400000#32 * Ideal.pow (Ideal.logistic x) (Ideal.ofBits .f32 0x40000000#32)
      * -Ideal.log (1 - Ideal.logistic x + Ideal.ofBits .f32 0x322BCC77#32)

/-- The distance of two coordinates, each over its image's size. -/
def gap (p i t j : EReal) : EReal := max (Ideal.div p i - Ideal.div t j) (-(Ideal.div p i - Ideal.div t j))

/-- The area two boxes share. -/
def inter (p t : Fin 4 → EReal) : EReal :=
  max (min (p 2) (t 2) - max (p 0) (t 0)) 0 * max (min (p 3) (t 3) - max (p 1) (t 1)) 0

/-- A box's area. -/
def area (p : Fin 4 → EReal) : EReal := (p 2 - p 0) * (p 3 - p 1)

/-- The area two boxes cover. -/
def cover (p t : Fin 4 → EReal) : EReal := area p + area t - inter p t

/-- The area of the least box around both. -/
def hull (p t : Fin 4 → EReal) : EReal :=
  (max (p 2) (t 2) - min (p 0) (t 0)) * (max (p 3) (t 3) - min (p 1) (t 1))

/-- The generalized intersection over union of two boxes. -/
def giou (p t : Fin 4 → EReal) : EReal :=
  Ideal.div (inter p t) (cover p t) - Ideal.div (hull p t - cover p t) (hull p t)

/-- The cost of a prediction — its logit `x` of the target's class, its box `p` in an image of size `i` — against a target's
    box `t` in an image of size `j`. -/
def cost (x : EReal) (p i t j : Fin 4 → EReal) : EReal :=
  gap (p 0) (i 0) (t 0) (j 0) + gap (p 1) (i 1) (t 1) (j 1) + gap (p 2) (i 2) (t 2) (j 2) + gap (p 3) (i 3) (t 3) (j 3)
    + focal x - giou p t

/-- The cost of the prediction at place `n` of image `b` against that image's target `t`, whose label is `k`, read off the
    arguments: logits, predicted boxes, target boxes, the two arrays of image sizes. -/
def price (logit : (⟨4, ![4, 80, 128, 128]⟩ : Shape).Idx → EReal) (box : (⟨4, ![4, 4, 128, 128]⟩ : Shape).Idx → EReal)
    (target : (⟨3, ![4, 100, 4]⟩ : Shape).Idx → EReal) (size : (⟨2, ![4, 4]⟩ : Shape).Idx → EReal)
    (tsize : (⟨3, ![4, 100, 4]⟩ : Shape).Idx → EReal) (b : Fin 4) (t : Fin 100) (k : Fin 80) (n : ℕ) : EReal :=
  if h : n < 16384 then
    cost (logit (ix4 b k (⟨n / 128, by omega⟩ : Fin 128) (⟨n % 128, by omega⟩ : Fin 128)))
      (fun q => box (ix4 b q (⟨n / 128, by omega⟩ : Fin 128) (⟨n % 128, by omega⟩ : Fin 128)))
      (fun q => size (ix2 b q)) (fun q => target (ix3 b t q)) (fun q => tsize (ix3 b t q))
  else 0

/-- Around a box of positive extent in an axis, the side of the enclosing box is not negative: clipping it at zero
    changes nothing. -/
theorem clip_side (a b s t : EReal) (h : s < t) : max 0 (max b t - min a s) = max b t - min a s := by
  have hlt : min a s < max b t := (min_le_right _ _).trans_lt (h.trans_le (le_max_right _ _))
  exact max_eq_right ((EReal.sub_nonneg (.inr hlt.ne_top) (.inl hlt.ne_bot)).2 hlt.le)

end Cert.Spec

end
-- ==== Proof.Chunk.lean ====
/-
  One stretch of 2048 predictions in the kernel: its tile of costs, written once for every stretch, read at an index.
-/
module

public import proofs.«01_k».proof.Proof.Gen.KernelIdeal.Frame
public import proofs.«01_k».proof.Proof.Spec
public import Idealize.ShloMosaic.Lib.Pointwise

@[expose] public section

set_option maxRecDepth 16384

noncomputable section

namespace Cert.Ker

open Idealize.ShloMosaic Idealize.SL.Sem Cert.KernelIdeal Cert.KernelIdeal.Gen

/-- A tile over targets and the predictions of a stretch. -/
abbrev M := FVec Ideal S100x2048 .f32
/-- A value per target. -/
abbrev Col := FVec Ideal S100x1 .f32
/-- A value per prediction of a stretch. -/
abbrev Row := FVec Ideal S1x2048 .f32

/-- The distances of one coordinate: predictions' row over its image size, against the targets' column. -/
def gapT (a : Row) (i : Vec Ideal S1x1x1 .f32) (u : Col) : M :=
  absf (subf (broadcastTo S100x2048 (divf a (broadcastTo S1x2048
      (shapeCast S1x1 i shapeCasts_S1x1x1_S1x1 : FVec Ideal S1x1 .f32) broadcasts_S1x1_S1x2048)) broadcasts_S1x2048_S100x2048)
    (broadcastTo S100x2048 u broadcasts_S100x1_S100x2048))

/-- The side two boxes share, in one axis. -/
def sideT (lo hi : Row) (tlo thi : Col) : M :=
  maximumf (subf (minimumf (broadcastTo S100x2048 hi broadcasts_S1x2048_S100x2048) (broadcastTo S100x2048 thi broadcasts_S100x1_S100x2048))
    (maximumf (broadcastTo S100x2048 lo broadcasts_S1x2048_S100x2048) (broadcastTo S100x2048 tlo broadcasts_S100x1_S100x2048)))
    (broadcast S100x2048 (Scalar.ofBits .f32 0x00000000#32))

/-- The enclosing box's side, in one axis. -/
def hullT (lo hi : Row) (tlo thi : Col) : M :=
  subf (maximumf (broadcastTo S100x2048 hi broadcasts_S1x2048_S100x2048) (broadcastTo S100x2048 thi broadcasts_S100x1_S100x2048))
    (minimumf (broadcastTo S100x2048 lo broadcasts_S1x2048_S100x2048) (broadcastTo S100x2048 tlo broadcasts_S100x1_S100x2048))

/-- The tile of generalized intersections over unions. -/
def giouT (a b c d : Row) (t0 t1 t2 t3 ar : Col) : M :=
  let I := mulf (sideT a c t0 t2) (sideT b d t1 t3)
  let U := subf (addf (broadcastTo S100x2048 (mulf (subf c a) (subf d b)) broadcasts_S1x2048_S100x2048)
    (broadcastTo S100x2048 ar broadcasts_S100x1_S100x2048)) I
  let H := mulf (hullT a c t0 t2) (hullT b d t1 t3)
  subf (divf I U) (divf (subf H U) H)

/-- The tile of costs of the stretch from `off`. -/
def tile (cls : FVec Ideal S100x16384 .f32) (t0 t1 t2 t3 u0 u1 u2 u3 ar : Col) (a b c d : Row)
    (i0 i1 i2 i3 : Vec Ideal S1x1x1 .f32) (off : ℕ) (h : S100x16384.Slices ![0, off] S100x2048) : M :=
  subf (addf (addf (addf (addf (gapT a i0 u0) (gapT b i1 u1)) (gapT c i2 u2)) (gapT d i3 u3))
    (extractStridedSlice S100x2048 ![0, off] cls h)) (giouT a b c d t0 t1 t2 t3 ar)

section
variable (x0 : Vec Ideal S1x80x16384 .f32) (x1 : Vec Ideal S1x4x16384 .f32) (x2 : Vec Ideal S1x100x4 .f32)
  (x3 : Vec Ideal S1x100x1 .i32) (x4 : Vec Ideal S1x1x4 .f32) (x5 : Vec Ideal S1x100x4 .f32)

/-- One coordinate of a stretch's predicted boxes lies inside the staged block. -/
theorem row_inb (q : Fin 4) {off : ℕ} (h : off + 2048 ≤ 16384) :
    ∀ a, (![0, q.val, off] : Fin 3 → Nat) a + S1x1x2048.size a ≤ S1x4x16384.size a
  | 0 => Nat.le_refl 1
  | 1 => q.isLt
  | 2 => h

/-- A stretch's columns lie inside the class table. -/
theorem cls_slices {off : ℕ} (h : off + 2048 ≤ 16384) : S100x16384.Slices ![0, off] S100x2048 :=
  ⟨rfl, fun | 0 => Nat.le_refl 100 | 1 => h⟩

/-- One coordinate of the predicted boxes of the stretch from `off`. -/
def row (q : Fin 4) (off : ℕ) (h : off + 2048 ≤ 16384) : Row :=
  shapeCast S1x2048 (View.ld x1 (Rect.unit (s := S1x4x16384) ![0, q.val, off] S1x1x2048.size (row_inb q h)))
    shapeCasts_S1x1x2048_S1x2048

/-- The tile of costs of the stretch from `off`, over the staged blocks. -/
def T (off : ℕ) (h : off + 2048 ≤ 16384) : M :=
  tile (k0_pay2 (View.ld x0 r0_0) (View.ld x3 r0_1)) (k0_pay3 (View.ld x2 r0_2)) (k0_pay4 (View.ld x2 r0_3))
    (k0_pay5 (View.ld x2 r0_4)) (k0_pay6 (View.ld x2 r0_5)) (k0_pay127 x0 x1 x2 x3 x4 x5) (k0_pay128 x0 x1 x2 x3 x4 x5)
    (k0_pay129 x0 x1 x2 x3 x4 x5) (k0_pay130 x0 x1 x2 x3 x4 x5) (k0_pay131 x0 x1 x2 x3 x4 x5)
    (row x1 0 off h) (row x1 1 off h) (row x1 2 off h) (row x1 3 off h)
    (View.ld x4 r0_10) (View.ld x4 r0_11) (View.ld x4 r0_12) (View.ld x4 r0_13) off (cls_slices h)

/-- The least cost of a tile, per target. -/
def lo (v : M) : FVec Ideal S100 .f32 :=
  multiReduction .minimumf [1] S100 v 0x7F800000#32 reduces_S100x2048_S100 (.inl rfl) rfl

/-- Where it is, as an index into all predictions. -/
def at' (v : M) (off : BitVec 32) : IVec S100 32 :=
  addi (reduceIndex .argMin 1 S100 v reduces_S100x2048_S100) (broadcast S100 off)

/-- The least cost and its index so far, after one more tile. -/
def stepT (v : M) (off : BitVec 32) (p : FVec Ideal S100 .f32 × IVec S100 32) : FVec Ideal S100 .f32 × IVec S100 32 :=
  (select (cmpf .olt (lo v) p.1) (lo v) p.1, select (cmpf .olt (lo v) p.1) (at' v off) p.2)

/-- The last stretch's tile, whose tail the step itself computes. -/
def lastT (v35 : FVec Ideal S100x16384 .f32) (v37 v39 v43 : Col) (v745 v749 : Row) (v784 v810 v811 v814 v815 : M) : M :=
  let H := mulf (subf v814 (minimumf v815 (broadcastTo S100x2048 v37 broadcasts_S100x1_S100x2048)))
    (subf (maximumf (broadcastTo S100x2048 v749 broadcasts_S1x2048_S100x2048) (broadcastTo S100x2048 v43 broadcasts_S100x1_S100x2048))
      (minimumf (broadcastTo S100x2048 v745 broadcasts_S1x2048_S100x2048) (broadcastTo S100x2048 v39 broadcasts_S100x1_S100x2048)))
  subf (addf v784 (extractStridedSlice S100x2048 ![0, 14336] v35 slices_S100x16384_o0_14336_S100x2048))
    (subf v811 (divf (subf H v810) H))

/-- The body's end is one more step, and the result's cast. -/
theorem last_eq (v35 : FVec Ideal S100x16384 .f32) (v37 v39 v43 : Col) (b : FVec Ideal S100 .f32) (i : IVec S100 32)
    (v745 v749 : Row) (v784 v810 v811 v814 v815 : M) :
    k0_pay1 v35 v37 v39 v43 b i v745 v749 v784 v810 v811 v814 v815
      = shapeCast S1x1x100 (stepT (lastT v35 v37 v39 v43 v745 v749 v784 v810 v811 v814 v815) 14336#32 (b, i)).2
          shapeCasts_S100_S1x1x100 := by
  unfold k0_pay1 stepT lo at' lastT
  dsimp only

theorem tile0 (h : 0 + 2048 ≤ 16384) : k0_pay20 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay132 x0 x1 x2 x3 x4 x5) (k0_pay133 x0 x1 x2 x3 x4 x5) (k0_pay134 x0 x1 x2 x3 x4 x5) (k0_pay135 x0 x1 x2 x3 x4 x5) (k0_pay136 x0 x1 x2 x3 x4 x5) (k0_pay137 x0 x1 x2 x3 x4 x5) (k0_pay138 x0 x1 x2 x3 x4 x5) (k0_pay139 x0 x1 x2 x3 x4 x5) = T x0 x1 x2 x3 x4 x5 0 h := rfl
theorem tile1 (h : 2048 + 2048 ≤ 16384) : k0_pay31 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay141 x0 x1 x2 x3 x4 x5) (k0_pay142 x0 x1 x2 x3 x4 x5) (k0_pay143 x0 x1 x2 x3 x4 x5) (k0_pay144 x0 x1 x2 x3 x4 x5) (k0_pay145 x0 x1 x2 x3 x4 x5) (k0_pay146 x0 x1 x2 x3 x4 x5) (k0_pay147 x0 x1 x2 x3 x4 x5) (k0_pay148 x0 x1 x2 x3 x4 x5) = T x0 x1 x2 x3 x4 x5 2048 h := rfl
theorem tile2 (h : 4096 + 2048 ≤ 16384) : k0_pay42 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay150 x0 x1 x2 x3 x4 x5) (k0_pay151 x0 x1 x2 x3 x4 x5) (k0_pay152 x0 x1 x2 x3 x4 x5) (k0_pay153 x0 x1 x2 x3 x4 x5) (k0_pay154 x0 x1 x2 x3 x4 x5) (k0_pay155 x0 x1 x2 x3 x4 x5) = T x0 x1 x2 x3 x4 x5 4096 h := rfl
theorem tile3 (h : 6144 + 2048 ≤ 16384) : k0_pay55 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay157 x0 x1 x2 x3 x4 x5) (k0_pay158 x0 x1 x2 x3 x4 x5) (k0_pay159 x0 x1 x2 x3 x4 x5) (k0_pay160 x0 x1 x2 x3 x4 x5) (k0_pay161 x0 x1 x2 x3 x4 x5) (k0_pay162 x0 x1 x2 x3 x4 x5) (k0_pay163 x0 x1 x2 x3 x4 x5) (k0_pay164 x0 x1 x2 x3 x4 x5) = T x0 x1 x2 x3 x4 x5 6144 h := rfl
theorem tile4 (h : 8192 + 2048 ≤ 16384) : k0_pay167 x0 x1 x2 x3 x4 x5 = T x0 x1 x2 x3 x4 x5 8192 h := rfl
theorem tile5 (h : 10240 + 2048 ≤ 16384) : k0_pay87 (k0_pay122 x0 x1 x2 x3 x4 x5) (k0_pay173 x0 x1 x2 x3 x4 x5) (k0_pay174 x0 x1 x2 x3 x4 x5) (k0_pay175 x0 x1 x2 x3 x4 x5) (k0_pay176 x0 x1 x2 x3 x4 x5) = T x0 x1 x2 x3 x4 x5 10240 h := rfl
theorem tile6 (h : 12288 + 2048 ≤ 16384) : k0_pay104 (k0_pay122 x0 x1 x2 x3 x4 x5) (k0_pay124 x0 x1 x2 x3 x4 x5) (k0_pay179 x0 x1 x2 x3 x4 x5) (k0_pay182 x0 x1 x2 x3 x4 x5) (k0_pay183 x0 x1 x2 x3 x4 x5) (k0_pay184 x0 x1 x2 x3 x4 x5) (k0_pay185 x0 x1 x2 x3 x4 x5) (k0_pay186 x0 x1 x2 x3 x4 x5) = T x0 x1 x2 x3 x4 x5 12288 h := rfl
theorem tile7 (h : 14336 + 2048 ≤ 16384) : lastT (k0_pay122 x0 x1 x2 x3 x4 x5) (k0_pay123 x0 x1 x2 x3 x4 x5) (k0_pay124 x0 x1 x2 x3 x4 x5) (k0_pay126 x0 x1 x2 x3 x4 x5) (k0_pay188 x0 x1 x2 x3 x4 x5) (k0_pay190 x0 x1 x2 x3 x4 x5) (k0_pay116 (k0_pay129 x0 x1 x2 x3 x4 x5) (k0_pay130 x0 x1 x2 x3 x4 x5) (k0_pay189 x0 x1 x2 x3 x4 x5) (k0_pay190 x0 x1 x2 x3 x4 x5) (k0_pay113 (k0_pay127 x0 x1 x2 x3 x4 x5) (View.ld x1 r0_38) (View.ld x4 r0_10)) (k0_pay114 (View.ld x1 r0_39) (View.ld x4 r0_11)) (k0_pay115 (k0_pay128 x0 x1 x2 x3 x4 x5)) (View.ld x4 r0_12) (View.ld x4 r0_13)) (k0_pay118 (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay187 x0 x1 x2 x3 x4 x5) (k0_pay188 x0 x1 x2 x3 x4 x5) (k0_pay189 x0 x1 x2 x3 x4 x5) (k0_pay190 x0 x1 x2 x3 x4 x5)) (k0_pay119 (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay187 x0 x1 x2 x3 x4 x5) (k0_pay188 x0 x1 x2 x3 x4 x5) (k0_pay189 x0 x1 x2 x3 x4 x5) (k0_pay190 x0 x1 x2 x3 x4 x5)) (k0_pay120 (k0_pay125 x0 x1 x2 x3 x4 x5) (k0_pay189 x0 x1 x2 x3 x4 x5)) (k0_pay121 (k0_pay187 x0 x1 x2 x3 x4 x5)) = T x0 x1 x2 x3 x4 x5 14336 h := rfl

/-- The least costs and their indices over the whole row of predictions, stretch after stretch. -/
def best (h0 : 0 + 2048 ≤ 16384) (h1 : 2048 + 2048 ≤ 16384) (h2 : 4096 + 2048 ≤ 16384) (h3 : 6144 + 2048 ≤ 16384)
    (h4 : 8192 + 2048 ≤ 16384) (h5 : 10240 + 2048 ≤ 16384) (h6 : 12288 + 2048 ≤ 16384) (h7 : 14336 + 2048 ≤ 16384) :
    FVec Ideal S100 .f32 × IVec S100 32 :=
  stepT (T x0 x1 x2 x3 x4 x5 14336 h7) 14336#32 (stepT (T x0 x1 x2 x3 x4 x5 12288 h6) 12288#32 (stepT (T x0 x1 x2 x3 x4 x5 10240 h5) 10240#32
    (stepT (T x0 x1 x2 x3 x4 x5 8192 h4) 8192#32 (stepT (T x0 x1 x2 x3 x4 x5 6144 h3) 6144#32 (stepT (T x0 x1 x2 x3 x4 x5 4096 h2) 4096#32
      (stepT (T x0 x1 x2 x3 x4 x5 2048 h1) 2048#32 (lo (T x0 x1 x2 x3 x4 x5 0 h0), at' (T x0 x1 x2 x3 x4 x5 0 h0) 0#32)))))))

/-- What the body stores is the indices of the least costs. -/
theorem stored (h0 h1 h2 h3 h4 h5 h6 h7) :
    k0_pay1 (k0_pay122 x0 x1 x2 x3 x4 x5) (k0_pay123 x0 x1 x2 x3 x4 x5) (k0_pay124 x0 x1 x2 x3 x4 x5) (k0_pay126 x0 x1 x2 x3 x4 x5) (k0_pay107 (k0_pay122 x0 x1 x2 x3 x4 x5) (k0_pay124 x0 x1 x2 x3 x4 x5) (k0_pay177 x0 x1 x2 x3 x4 x5) (k0_pay179 x0 x1 x2 x3 x4 x5) (k0_pay182 x0 x1 x2 x3 x4 x5) (k0_pay183 x0 x1 x2 x3 x4 x5) (k0_pay184 x0 x1 x2 x3 x4 x5) (k0_pay185 x0 x1 x2 x3 x4 x5) (k0_pay186 x0 x1 x2 x3 x4 x5)) (k0_pay108 (k0_pay122 x0 x1 x2 x3 x4 x5) (k0_pay124 x0 x1 x2 x3 x4 x5) (k0_pay177 x0 x1 x2 x3 x4 x5) (k0_pay91 (k0_pay122 x0 x1 x2 x3 x4 x5) (k0_pay168 x0 x1 x2 x3 x4 x5) (k0_pay73 (k0_pay166 x0 x1 x2 x3 x4 x5) (k0_pay60 (k0_pay46 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay149 x0 x1 x2 x3 x4 x5) (k0_pay35 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay140 x0 x1 x2 x3 x4 x5) (k0_pay22 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay132 x0 x1 x2 x3 x4 x5) (k0_pay133 x0 x1 x2 x3 x4 x5) (k0_pay134 x0 x1 x2 x3 x4 x5) (k0_pay135 x0 x1 x2 x3 x4 x5) (k0_pay136 x0 x1 x2 x3 x4 x5) (k0_pay137 x0 x1 x2 x3 x4 x5) (k0_pay138 x0 x1 x2 x3 x4 x5) (k0_pay139 x0 x1 x2 x3 x4 x5)) (k0_pay141 x0 x1 x2 x3 x4 x5) (k0_pay142 x0 x1 x2 x3 x4 x5) (k0_pay143 x0 x1 x2 x3 x4 x5) (k0_pay144 x0 x1 x2 x3 x4 x5) (k0_pay145 x0 x1 x2 x3 x4 x5) (k0_pay146 x0 x1 x2 x3 x4 x5) (k0_pay147 x0 x1 x2 x3 x4 x5) (k0_pay148 x0 x1 x2 x3 x4 x5)) (k0_pay150 x0 x1 x2 x3 x4 x5) (k0_pay151 x0 x1 x2 x3 x4 x5) (k0_pay152 x0 x1 x2 x3 x4 x5) (k0_pay153 x0 x1 x2 x3 x4 x5) (k0_pay154 x0 x1 x2 x3 x4 x5) (k0_pay155 x0 x1 x2 x3 x4 x5)) (k0_pay57 (k0_pay122 x0 x1 x2 x3 x4 x5) (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay157 x0 x1 x2 x3 x4 x5) (k0_pay158 x0 x1 x2 x3 x4 x5) (k0_pay159 x0 x1 x2 x3 x4 x5) (k0_pay160 x0 x1 x2 x3 x4 x5) (k0_pay161 x0 x1 x2 x3 x4 x5) (k0_pay162 x0 x1 x2 x3 x4 x5) (k0_pay163 x0 x1 x2 x3 x4 x5) (k0_pay164 x0 x1 x2 x3 x4 x5)) (k0_pay165 x0 x1 x2 x3 x4 x5)) (k0_pay167 x0 x1 x2 x3 x4 x5)) (k0_pay173 x0 x1 x2 x3 x4 x5) (k0_pay174 x0 x1 x2 x3 x4 x5) (k0_pay175 x0 x1 x2 x3 x4 x5) (k0_pay176 x0 x1 x2 x3 x4 x5)) (k0_pay179 x0 x1 x2 x3 x4 x5) (k0_pay182 x0 x1 x2 x3 x4 x5) (k0_pay183 x0 x1 x2 x3 x4 x5) (k0_pay184 x0 x1 x2 x3 x4 x5) (k0_pay185 x0 x1 x2 x3 x4 x5) (k0_pay186 x0 x1 x2 x3 x4 x5)) (k0_pay188 x0 x1 x2 x3 x4 x5) (k0_pay190 x0 x1 x2 x3 x4 x5) (k0_pay116 (k0_pay129 x0 x1 x2 x3 x4 x5) (k0_pay130 x0 x1 x2 x3 x4 x5) (k0_pay189 x0 x1 x2 x3 x4 x5) (k0_pay190 x0 x1 x2 x3 x4 x5) (k0_pay113 (k0_pay127 x0 x1 x2 x3 x4 x5) (View.ld x1 r0_38) (View.ld x4 r0_10)) (k0_pay114 (View.ld x1 r0_39) (View.ld x4 r0_11)) (k0_pay115 (k0_pay128 x0 x1 x2 x3 x4 x5)) (View.ld x4 r0_12) (View.ld x4 r0_13)) (k0_pay118 (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay187 x0 x1 x2 x3 x4 x5) (k0_pay188 x0 x1 x2 x3 x4 x5) (k0_pay189 x0 x1 x2 x3 x4 x5) (k0_pay190 x0 x1 x2 x3 x4 x5)) (k0_pay119 (k0_pay123 x0 x1 x2 x3 x4 x5) (k0_pay124 x0 x1 x2 x3 x4 x5) (k0_pay125 x0 x1 x2 x3 x4 x5) (k0_pay126 x0 x1 x2 x3 x4 x5) (k0_pay131 x0 x1 x2 x3 x4 x5) (k0_pay187 x0 x1 x2 x3 x4 x5) (k0_pay188 x0 x1 x2 x3 x4 x5) (k0_pay189 x0 x1 x2 x3 x4 x5) (k0_pay190 x0 x1 x2 x3 x4 x5)) (k0_pay120 (k0_pay125 x0 x1 x2 x3 x4 x5) (k0_pay189 x0 x1 x2 x3 x4 x5)) (k0_pay121 (k0_pay187 x0 x1 x2 x3 x4 x5))
      = shapeCast S1x1x100 (best x0 x1 x2 x3 x4 x5 h0 h1 h2 h3 h4 h5 h6 h7).2 shapeCasts_S100_S1x1x100 := by
  rw [last_eq, tile7 _ _ _ _ _ _ h7]
  unfold best
  rw [← tile0, ← tile1, ← tile2, ← tile3, ← tile4, ← tile5, ← tile6]
  unfold k0_pay108 k0_pay107 k0_pay106 k0_pay105 k0_pay91 k0_pay177 k0_pay90 k0_pay89 k0_pay88 k0_pay73 k0_pay168 k0_pay72
    k0_pay71 k0_pay70 k0_pay60 k0_pay166 k0_pay59 k0_pay165 k0_pay58 k0_pay57 k0_pay56 k0_pay46 k0_pay156 k0_pay45 k0_pay44
    k0_pay43 k0_pay35 k0_pay149 k0_pay34 k0_pay33 k0_pay32 k0_pay22 k0_pay140 k0_pay21
  unfold stepT lo at'
  dsimp only
end
end Cert.Ker

end
-- ==== Proof.KerVal.lean ====
/-
  The kernel's tile of costs, read at an index: the cost of the prediction at that place against the target.
-/
module

public import proofs.«01_k».proof.Proof.Chunk

@[expose] public section

set_option maxRecDepth 16384

noncomputable section

namespace Cert.Ker

open Idealize.ShloMosaic Idealize.SL.Sem Cert.KernelIdeal Cert.KernelIdeal.Gen

variable (x0 : Vec Ideal S1x80x16384 .f32) (x1 : Vec Ideal S1x4x16384 .f32) (x2 : Vec Ideal S1x100x4 .f32)
  (x3 : Vec Ideal S1x100x1 .i32) (x4 : Vec Ideal S1x1x4 .f32) (x5 : Vec Ideal S1x100x4 .f32)

/-- Whether a class label is the class `n`, as a number: one where they agree, zero elsewhere. -/
theorem onehot (b : BitVec 32) (n : ℕ) (hn : n < 80) :
    (FloatOps.sitofp FTy.f32 (BitVec.setWidth 32 (IntOp.cmpi CmpIPredicate.eq b (BitVec.ofNat 32 n))) : Ideal .f32)
      = (if n = b.toNat then (1 : EReal) else 0) := by
  by_cases h : n = b.toNat
  · subst h
    simp [IntOp.cmpi, FloatOps.sitofp]
  · have : b ≠ BitVec.ofNat 32 n := by
      rintro rfl
      exact h (by simp; omega)
    simp [IntOp.cmpi, FloatOps.sitofp, beq_eq_false_iff_ne.2 this, h]

/-- The class table at a target and a prediction: the focal cost of the prediction's logit of the target's class. -/
theorem cls_at (t : Fin 100) (j : Fin 16384) (hl : (x3 (ix3 0 t 0) : BitVec 32).toNat < 80) :
    (k0_pay2 (View.ld x0 r0_0) (View.ld x3 r0_1) (ix2 t j) : EReal) = Spec.focal (x0 (ix3 0 ⟨_, hl⟩ j)) := by
  pointwise [k0_pay2]
  rw [Finset.sum_eq_single (⟨_, hl⟩ : Fin 80)]
  · rw [onehot _ _ hl, if_pos rfl, one_mul]
    simp only [zero_sub]
    rfl
  · intro x _ hx
    rw [onehot _ _ x.isLt, if_neg (fun e => hx (Fin.ext e)), zero_mul]
  · exact fun h => absurd (Finset.mem_univ _) h

/-- The tile of generalized intersections over unions, at an index. -/
theorem giou_at (a b c d : Row) (t0 t1 t2 t3 ar : Col) (t : Fin 100) (l : Fin 2048) (p u : Fin 4 → EReal)
    (ha : a (ix2 0 l) = p 0) (hb : b (ix2 0 l) = p 1) (hc : c (ix2 0 l) = p 2) (hd : d (ix2 0 l) = p 3)
    (h0 : t0 (ix2 t 0) = u 0) (h1 : t1 (ix2 t 0) = u 1) (h2 : t2 (ix2 t 0) = u 2) (h3 : t3 (ix2 t 0) = u 3)
    (har : ar (ix2 t 0) = Spec.area u) :
    (giouT a b c d t0 t1 t2 t3 ar (ix2 t l) : EReal) = Spec.giou p u := by
  pointwise [giouT, hullT, sideT]
  rw [ha, hb, hc, hd, h0, h1, h2, h3, har]
  rfl

/-- The tile of one coordinate's distances, at an index. -/
theorem gap_at (a : Row) (i : Vec Ideal S1x1x1 .f32) (u : Col) (t : Fin 100) (l : Fin 2048) (p s v j : EReal)
    (ha : a (ix2 0 l) = p) (hi : i (ix3 0 0 0) = s) (hu : u (ix2 t 0) = Ideal.div v j) :
    (gapT a i u (ix2 t l) : EReal) = Spec.gap p s v j := by
  pointwise [gapT]
  rw [ha, hi, hu]
  rfl

/-- A stretch's coordinate at a place, in the staged block. -/
theorem row_at (q : Fin 4) (off : ℕ) (h : off + 2048 ≤ 16384) (l : Fin 2048) :
    (row x1 q off h (ix2 0 l) : EReal) = x1 (ix3 0 q ⟨off + l, by omega⟩) := by
  pointwise [row]

/-- A target's corners, in the staged block. -/
theorem corners_at (t : Fin 100) :
    (k0_pay3 (View.ld x2 r0_2) (ix2 t 0) : EReal) = x2 (ix3 0 t 0) ∧ (k0_pay4 (View.ld x2 r0_3) (ix2 t 0) : EReal) = x2 (ix3 0 t 1)
      ∧ (k0_pay5 (View.ld x2 r0_4) (ix2 t 0) : EReal) = x2 (ix3 0 t 2)
      ∧ (k0_pay6 (View.ld x2 r0_5) (ix2 t 0) : EReal) = x2 (ix3 0 t 3) := by
  refine ⟨?_, ?_, ?_, ?_⟩ <;> pointwise [k0_pay3, k0_pay4, k0_pay5, k0_pay6]

/-- The predictions' image's sizes, in the staged block. -/
theorem sizes_at :
    (View.ld x4 r0_10 (ix3 0 0 0) : EReal) = x4 (ix3 0 0 0) ∧ (View.ld x4 r0_11 (ix3 0 0 0) : EReal) = x4 (ix3 0 0 1)
      ∧ (View.ld x4 r0_12 (ix3 0 0 0) : EReal) = x4 (ix3 0 0 2) ∧ (View.ld x4 r0_13 (ix3 0 0 0) : EReal) = x4 (ix3 0 0 3) := by
  refine ⟨?_, ?_, ?_, ?_⟩ <;> pointwise

/-- A target's corners over its image's size. -/
theorem norms_at (t : Fin 100) :
    (k0_pay127 x0 x1 x2 x3 x4 x5 (ix2 t 0) : EReal) = Ideal.div (x2 (ix3 0 t 0)) (x5 (ix3 0 t 0))
      ∧ (k0_pay128 x0 x1 x2 x3 x4 x5 (ix2 t 0) : EReal) = Ideal.div (x2 (ix3 0 t 1)) (x5 (ix3 0 t 1))
      ∧ (k0_pay129 x0 x1 x2 x3 x4 x5 (ix2 t 0) : EReal) = Ideal.div (x2 (ix3 0 t 2)) (x5 (ix3 0 t 2))
      ∧ (k0_pay130 x0 x1 x2 x3 x4 x5 (ix2 t 0) : EReal) = Ideal.div (x2 (ix3 0 t 3)) (x5 (ix3 0 t 3)) := by
  refine ⟨?_, ?_, ?_, ?_⟩ <;>
    pointwise [k0_pay127, k0_pay128, k0_pay129, k0_pay130, k0_pay123, k0_pay7, k0_pay8, k0_pay9, k0_pay10, k0_pay3, k0_pay4, k0_pay5, k0_pay6]

/-- A target's area. -/
theorem area_at (t : Fin 100) :
    (k0_pay131 x0 x1 x2 x3 x4 x5 (ix2 t 0) : EReal) = Spec.area (fun q => x2 (ix3 0 t q)) := by
  pointwise [k0_pay131, k0_pay123, k0_pay3, k0_pay4, k0_pay5, k0_pay6, k0_pay11]
  rfl

/-- The tile of costs at a target and a place of the stretch. -/
theorem T_at (off : ℕ) (h : off + 2048 ≤ 16384) (t : Fin 100) (l : Fin 2048)
    (hl : (x3 (ix3 0 t 0) : BitVec 32).toNat < 80) :
    (T x0 x1 x2 x3 x4 x5 off h (ix2 t l) : EReal)
      = Spec.cost (x0 (ix3 0 ⟨_, hl⟩ ⟨off + l, by omega⟩)) (fun q => x1 (ix3 0 q ⟨off + l, by omega⟩))
          (fun q => x4 (ix3 0 0 q)) (fun q => x2 (ix3 0 t q)) (fun q => x5 (ix3 0 t q)) := by
  obtain ⟨c0, c1, c2, c3⟩ := corners_at x2 t
  obtain ⟨n0, n1, n2, n3⟩ := norms_at x0 x1 x2 x3 x4 x5 t
  obtain ⟨i0, i1, i2, i3⟩ := sizes_at x4
  unfold T tile
  pointwise
  rw [gap_at _ _ _ _ _ _ _ _ _ (row_at x1 0 _ _ _) i0 n0, gap_at _ _ _ _ _ _ _ _ _ (row_at x1 1 _ _ _) i1 n1,
    gap_at _ _ _ _ _ _ _ _ _ (row_at x1 2 _ _ _) i2 n2, gap_at _ _ _ _ _ _ _ _ _ (row_at x1 3 _ _ _) i3 n3,
    cls_at x0 x3 t _ hl, giou_at _ _ _ _ _ _ _ _ _ _ _ (fun q => x1 (ix3 0 q ⟨off + l, by omega⟩)) (fun q => x2 (ix3 0 t q))
    (row_at _ _ _ _ _) (row_at _ _ _ _ _) (row_at _ _ _ _ _) (row_at _ _ _ _ _) c0 c1 c2 c3 (area_at _ _ _ _ _ _ _)]
  rfl

end Cert.Ker

end
-- ==== Proof.Argmin.lean ====
/-
  The first least place of a sequence of extended reals: it is unique, two stretches' combine, and both the kernel's
  index reduction and the reference's pairwise fold find it.
-/
module

public import Idealize.ShloMosaic.Lib.Pointwise

@[expose] public section

noncomputable section

namespace Cert.Argmin

open Idealize.ShloMosaic

/-- `k` is the first place of the stretch from `a` to `b` where `f` is least. -/
def IsFirst (f : ℕ → EReal) (a b k : ℕ) : Prop :=
  a ≤ k ∧ k < b ∧ (∀ j, a ≤ j → j < b → f k ≤ f j) ∧ ∀ j, a ≤ j → j < k → f k < f j

/-- There is only one first least place. -/
theorem IsFirst.unique {f : ℕ → EReal} {a b k l : ℕ} (hk : IsFirst f a b k) (hl : IsFirst f a b l) : k = l := by
  obtain ⟨k0, k1, k2, k3⟩ := hk
  obtain ⟨l0, l1, l2, l3⟩ := hl
  rcases lt_trichotomy k l with h | h | h
  · exact absurd (l3 k k0 h) (not_lt.2 (k2 l l0 l1))
  · exact h
  · exact absurd (k3 l l0 h) (not_lt.2 (l2 k k0 k1))

/-- Of two stretches, one after the other, the later's first least place counts only where it is strictly less. -/
theorem IsFirst.append {f : ℕ → EReal} {a m b k l : ℕ} (hk : IsFirst f a m k) (hl : IsFirst f m b l) :
    IsFirst f a b (if f l < f k then l else k) := by
  obtain ⟨k0, k1, k2, k3⟩ := hk
  obtain ⟨l0, l1, l2, l3⟩ := hl
  split <;> rename_i h
  · refine ⟨by omega, l1, fun j ja jb => ?_, fun j ja jl => ?_⟩
    · rcases lt_or_ge j m with jm | jm
      · exact h.le.trans (k2 j ja jm)
      · exact l2 j jm jb
    · rcases lt_or_ge j m with jm | jm
      · exact h.trans_le (k2 j ja jm)
      · exact l3 j jm jl
  · refine ⟨k0, by omega, fun j ja jb => ?_, k3⟩
    rcases lt_or_ge j m with jm | jm
    · exact k2 j ja jm
    · exact (not_lt.1 h).trans (l2 j jm jb)

/-- A finite nonempty family has a first least member. -/
theorem exists_first {n : ℕ} (hn : 0 < n) (g : Fin n → EReal) :
    ∃ k : Fin n, (∀ l, g k ≤ g l) ∧ ∀ l < k, g k < g l := by
  classical
  haveI : Nonempty (Fin n) := ⟨⟨0, hn⟩⟩
  obtain ⟨m, hm⟩ := Finite.exists_min g
  let S := Finset.univ.filter fun k => ∀ l, g k ≤ g l
  have hS : S.Nonempty := ⟨m, by simpa [S] using hm⟩
  have hk := S.min'_mem hS
  refine ⟨S.min' hS, by simpa [S] using hk, fun l hl => lt_of_not_ge fun hle => ?_⟩
  have : l ∈ S := by
    simp only [S, Finset.mem_filter, Finset.mem_univ, true_and] at hk ⊢
    exact fun l' => hle.trans (hk l')
  exact absurd (S.min'_le l this) (not_le.2 hl)

/-- The least value, by the fold the kernel runs. -/
theorem fold_min {n : ℕ} (g : Fin n → EReal) (k : Fin n) (hk : ∀ l, g k ≤ g l) : Finset.univ.fold min ⊤ g = g k := by
  apply le_antisymm
  · exact (Finset.fold_min_le _).2 (.inr ⟨k, Finset.mem_univ _, le_rfl⟩)
  · exact (Finset.le_fold_min _).2 ⟨le_top, fun l _ => hk l⟩

/-- The kernel's index reduction finds the first least place along its axis. -/
theorem reduceIndex_eq {s t : Shape} {a : Fin s.rank} (h : s.Reduces [a] t) (x : s.Idx → EReal) (j : t.Idx)
    (k : Fin (s.size a)) (hk : ∀ l, x (h.lift j k) ≤ x (h.lift j l)) (hf : ∀ l < k, x (h.lift j k) < x (h.lift j l)) :
    Ideal.reduceIndex .argMin a h x j = BitVec.ofNat 32 k.val := by
  classical
  have hax : ∀ l, (h.lift j l a).val = l.val := fun l => by
    rw [Shape.Reduces.lift_val]; simp [Shape.Reduces.liftVal]
  have hmem : ∀ i, h.drop i = j ↔ ∃ l, h.lift j l = i := fun i => by
    have := Finset.ext_iff.1 (h.filter_drop_eq_image_lift j) i
    simpa using this
  have : ∀ (S : Finset ℕ), k.val ∈ S → (∀ l ∈ S, k.val ≤ l) → S.min.getD 0 = k.val := fun S h1 h2 => by
    have : S.min = (k.val : WithTop ℕ) := le_antisymm (Finset.min_le h1) (Finset.le_min fun l hl => WithTop.coe_le_coe.2 (h2 l hl))
    rw [this]; rfl
  unfold Ideal.reduceIndex
  simp only [reduceCtorEq, if_false]
  refine congrArg _ (this _ ?_ ?_)
  · simp only [Finset.mem_image, Finset.mem_filter, Finset.mem_univ, true_and]
    refine ⟨h.lift j k, ⟨h.drop_lift j k, fun i hi => ?_⟩, hax k⟩
    obtain ⟨l, rfl⟩ := (hmem i).1 hi
    exact not_lt.2 (hk l)
  · simp only [Finset.mem_image, Finset.mem_filter, Finset.mem_univ, true_and]
    rintro l ⟨i, ⟨hi, hmin⟩, rfl⟩
    obtain ⟨l, rfl⟩ := (hmem i).1 hi
    rw [hax]
    exact not_lt.1 fun hl => hmin (h.lift j k) (h.drop_lift j k) (hf l hl)

/-- A value with its index is not after another: it is less, or as little at no later an index. -/
def Le (p q : EReal × BitVec 32) : Prop := p.1 < q.1 ∨ p.1 = q.1 ∧ p.2.toNat ≤ q.2.toNat

theorem Le.rfl {p : EReal × BitVec 32} : Le p p := .inr ⟨_root_.rfl, le_rfl⟩

theorem Le.trans {p q r : EReal × BitVec 32} (h : Le p q) (h' : Le q r) : Le p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- A fold whose step keeps one of its two operands, not after either, ends at a member of the list (or the start) that
    is not after any. -/
theorem foldl_least {r : EReal × BitVec 32 → EReal × BitVec 32 → EReal × BitVec 32}
    (hr : ∀ p q, p.2.toNat < 2 ^ 31 → q.2.toNat < 2 ^ 31 → (r p q = p ∨ r p q = q) ∧ Le (r p q) p ∧ Le (r p q) q)
    (L : List (EReal × BitVec 32)) (hL : ∀ q ∈ L, q.2.toNat < 2 ^ 31) (p : EReal × BitVec 32) (hp : p.2.toNat < 2 ^ 31) :
    (L.foldl r p = p ∨ L.foldl r p ∈ L) ∧ Le (L.foldl r p) p ∧ ∀ q ∈ L, Le (L.foldl r p) q := by
  induction L generalizing p with
  | nil => exact ⟨.inl rfl, .rfl, fun _ h => nomatch h⟩
  | cons a L ih =>
    obtain ⟨hm, h1, h2⟩ := hr p a hp (hL a List.mem_cons_self)
    have hb : (r p a).2.toNat < 2 ^ 31 := by
      rcases hm with e | e <;> rw [e]
      · exact hp
      · exact hL a List.mem_cons_self
    obtain ⟨i0, i1, i2⟩ := ih (fun q hq => hL q (List.mem_cons_of_mem _ hq)) (r p a) hb
    rw [List.foldl_cons]
    refine ⟨?_, i1.trans h1, fun q hq => ?_⟩
    · rcases i0 with e | e
      · rcases hm with e' | e'
        · exact .inl (e.trans e')
        · exact .inr (by rw [e, e']; exact List.mem_cons_self)
      · exact .inr (List.mem_cons_of_mem _ e)
    · rcases List.mem_cons.1 hq with rfl | hq
      · exact i1.trans h2
      · exact i2 q hq

/-- The index a fold from plus infinity and index zero ends at, over the pairs of a sequence's values and places, is the
    sequence's first least place. -/
theorem isFirst_of_least {f : ℕ → EReal} {n : ℕ} (hn : 0 < n) (hn' : n ≤ 2 ^ 31) {L : List (EReal × BitVec 32)}
    (hL : ∀ q, q ∈ L ↔ ∃ k, k < n ∧ q = (f k, BitVec.ofNat 32 k)) {p : EReal × BitVec 32}
    (hp : p = (⊤, 0#32) ∨ p ∈ L) (hle : ∀ q ∈ L, Le p q) : ∃ k, IsFirst f 0 n k ∧ p.2 = BitVec.ofNat 32 k := by
  have hto : ∀ k, k < n → (BitVec.ofNat 32 k).toNat = k := fun k hk => by
    rw [BitVec.toNat_ofNat]; exact Nat.mod_eq_of_lt (by omega)
  have key : ∃ k, k < n ∧ p = (f k, BitVec.ofNat 32 k) := by
    rcases hp with rfl | hp
    · refine ⟨0, hn, ?_⟩
      rcases hle _ ((hL _).2 ⟨0, hn, rfl⟩) with h | ⟨h, -⟩
      · exact absurd h (not_lt.2 le_top)
      · exact Prod.ext h rfl
    · exact (hL p).1 hp
  obtain ⟨k, hk, rfl⟩ := key
  refine ⟨k, ⟨Nat.zero_le _, hk, fun j _ hj => ?_, fun j _ hj => ?_⟩, rfl⟩
  · rcases hle _ ((hL _).2 ⟨j, hj, rfl⟩) with h | ⟨h, -⟩
    · exact h.le
    · exact h.le
  · rcases hle _ ((hL _).2 ⟨j, hj.trans hk, rfl⟩) with h | ⟨-, h⟩
    · exact h
    · rw [hto k hk, hto j (hj.trans hk)] at h
      omega

end Cert.Argmin

end
-- ==== Proof.Best.lean ====
/-
  The kernel's running least cost and its index, over its eight stretches: in the end the first least place.
-/
module

public import proofs.«01_k».proof.Proof.KerVal
public import proofs.«01_k».proof.Proof.Argmin

@[expose] public section

set_option maxRecDepth 16384

noncomputable section

namespace Cert.Ker

open Idealize.ShloMosaic Idealize.SL.Sem Cert.KernelIdeal Cert.KernelIdeal.Gen Cert.Argmin

/-- At target `t` the pair holds the least of `f`'s first `n` values and the word of its first place. -/
def Good (f : ℕ → EReal) (t : Fin 100) (n : ℕ) (p : FVec Ideal S100 .f32 × IVec S100 32) : Prop :=
  ∃ k, IsFirst f 0 n k ∧ (p.1 (ix1 t) : EReal) = f k ∧ p.2 (ix1 t) = BitVec.ofNat 32 k

/-- The place a reduction over a tile's predictions reads. -/
theorem lift_at (t : Fin 100) (l : Fin 2048) : reduces_S100x2048_S100.lift (ix1 t) l = ix2 t l := by
  funext c
  match c with
  | 0 => rfl
  | 1 => rfl

/-- A tile's reductions: the least value and its first place, counted from the stretch's start. -/
theorem tile_first (f : ℕ → EReal) (t : Fin 100) (v : M) (off : ℕ) (hv : ∀ l : Fin 2048, (v (ix2 t l) : EReal) = f (off + l)) :
    ∃ k, IsFirst f off (off + 2048) k ∧ (lo v (ix1 t) : EReal) = f k
      ∧ at' v (BitVec.ofNat 32 off) (ix1 t) = BitVec.ofNat 32 k := by
  obtain ⟨k, hk, hf⟩ := exists_first (by decide) fun l : Fin 2048 => (v (ix2 t l) : EReal)
  refine ⟨off + k, ⟨by omega, by omega, fun j ja jb => ?_, fun j ja jb => ?_⟩, ?_, ?_⟩
  · obtain ⟨l, rfl⟩ := Nat.exists_eq_add_of_le ja
    have := hk ⟨l, by omega⟩
    rwa [hv, hv] at this
  · obtain ⟨l, rfl⟩ := Nat.exists_eq_add_of_le ja
    have := hf ⟨l, by omega⟩ (by show l < k.val; omega)
    rwa [hv, hv] at this
  · rw [← hv k]
    refine Eq.trans ?_ (fold_min (fun l : Fin 2048 => (v (ix2 t l) : EReal)) k hk)
    pointwise [lo]
    rw [show Ideal.ofBits .f32 0x7F800000#32 = ⊤ by simp [Ideal.ofBits, Ideal.ieee]]
  · have hle : ∀ l, v (reduces_S100x2048_S100.lift (ix1 t) l) = v (ix2 t l) := fun l => congrArg v (lift_at t l)
    have := reduceIndex_eq reduces_S100x2048_S100 v (ix1 t) k (fun l => (hle k).le.trans ((hk l).trans (hle l).ge))
      (fun l hl => (hle k).trans_lt ((hf l hl).trans_eq (hle l).symm))
    show IntOp.addi (Ideal.reduceIndex .argMin 1 reduces_S100x2048_S100 v (ix1 t)) (BitVec.ofNat 32 off) = _
    rw [this, Nat.add_comm off]
    exact (BitVec.ofNat_add ..).symm

/-- The first stretch's pair is good. -/
theorem Good.first {f : ℕ → EReal} {t : Fin 100} (v : M) (hv : ∀ l : Fin 2048, (v (ix2 t l) : EReal) = f l) :
    Good f t 2048 (lo v, at' v 0#32) := by
  obtain ⟨k, a, b, c⟩ := tile_first f t v 0 (fun l => by rw [hv, Nat.zero_add])
  rw [Nat.zero_add] at a
  refine ⟨k, a, ?_, c⟩
  dsimp only
  exact b

/-- One more stretch keeps the pair good. -/
theorem Good.step {f : ℕ → EReal} {t : Fin 100} {p : FVec Ideal S100 .f32 × IVec S100 32} (v : M) (off : ℕ)
    (hv : ∀ l : Fin 2048, (v (ix2 t l) : EReal) = f (off + l)) (hp : Good f t off p) :
    Good f t (off + 2048) (stepT v (BitVec.ofNat 32 off) p) := by
  obtain ⟨k, hk, k1, k2⟩ := hp
  obtain ⟨l, hl, l1, l2⟩ := tile_first f t v off hv
  have hs : ∀ {α : Type} (a b : S100.Idx → α), select (cmpf .olt (lo v) p.1) a b (ix1 t) = if f l < f k then a (ix1 t) else b (ix1 t) := by
    intro α a b
    rw [← l1, ← k1]
    pointwise
  refine ⟨_, hk.append hl, ?_, ?_⟩
  · refine (hs _ _).trans ?_
    split
    · exact l1
    · exact k1
  · refine (hs _ _).trans ?_
    split
    · exact l2
    · exact k2

variable (x0 : Vec Ideal S1x80x16384 .f32) (x1 : Vec Ideal S1x4x16384 .f32) (x2 : Vec Ideal S1x100x4 .f32)
  (x3 : Vec Ideal S1x100x1 .i32) (x4 : Vec Ideal S1x1x4 .f32) (x5 : Vec Ideal S1x100x4 .f32)

/-- Over all stretches: the word of the first place of the least cost. -/
theorem best_at (f : ℕ → EReal) (t : Fin 100)
    (hT : ∀ off h (l : Fin 2048), (T x0 x1 x2 x3 x4 x5 off h (ix2 t l) : EReal) = f (off + l)) (h0 h1 h2 h3 h4 h5 h6 h7) :
    Good f t 16384 (best x0 x1 x2 x3 x4 x5 h0 h1 h2 h3 h4 h5 h6 h7) := by
  exact .step _ 14336 (hT _ h7) <| .step _ 12288 (hT _ h6) <| .step _ 10240 (hT _ h5) <| .step _ 8192 (hT _ h4) <|
    .step _ 6144 (hT _ h3) <| .step _ 4096 (hT _ h2) <| .step _ 2048 (hT _ h1) (.first _ fun l => by simpa using hT 0 h0 l)

end Cert.Ker

end
-- ==== Proof.KerRun.lean ====
/-
  The kernel program's run, read: which word stands at each entry of the two results. Each grid point's stored block is
  the running arg-min of one image's costs, the four blocks are the intermediate array, and the lines after the region
  reshape it and write the target numbers.
-/
module

public import proofs.«01_k».proof.Proof.Best
public import proofs.«01_k».proof.Proof.KerVal
public import Idealize.ShloMosaic.Lib.StableHlo.RunHlo
public import Idealize.ShloMosaic.Lib.StableHlo.ReadAt
public import Idealize.ShloMosaic.Lib.Pipeline.Value

@[expose] public section

set_option maxRecDepth 16384

noncomputable section

namespace Cert.Ker

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The four grid points are the four images: point `t`'s windows are at block `t` of the batch axis. -/
theorem indices (t : Fin cfg0.N) :
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![t.val, 0, 0]
      ∧ win0_6.index t = ![t.val, 0, 0] := by
  rcases fin_N0 t with rfl | rfl | rfl | rfl <;> decide +kernel

/-- A grid point as an image number. -/
abbrev img (t : Fin cfg0.N) : Fin 4 := ⟨t.val, N_0 ▸ t.isLt⟩

/-- Where an element of the logits' block sits in the array: in the point's own image. -/
theorem emb0 (t : Fin cfg0.N) (k : Fin 80) (n : Fin 16384) :
    (win0_0.rect t).emb (ix3 (0 : Fin 1) k n) = (ix3 (img t) k n : (⟨3, ![4, 80, 16384]⟩ : Shape).Idx) := by
  funext a
  refine Fin.ext ?_
  rw [win0_0.rect_emb_val, (indices t).1]
  match a with
  | ⟨0, _⟩ => exact Nat.mul_one _
  | ⟨1, _⟩ => show 0 * 80 + k.val = k.val; omega
  | ⟨2, _⟩ => show 0 * 16384 + n.val = n.val; omega

/-- Where an element of the predicted boxes' block sits in the array: in the point's own image. -/
theorem emb1 (t : Fin cfg0.N) (k : Fin 4) (n : Fin 16384) :
    (win0_1.rect t).emb (ix3 (0 : Fin 1) k n) = (ix3 (img t) k n : (⟨3, ![4, 4, 16384]⟩ : Shape).Idx) := by
  funext a
  refine Fin.ext ?_
  rw [win0_1.rect_emb_val, (indices t).2.1]
  match a with
  | ⟨0, _⟩ => exact Nat.mul_one _
  | ⟨1, _⟩ => show 0 * 4 + k.val = k.val; omega
  | ⟨2, _⟩ => show 0 * 16384 + n.val = n.val; omega

/-- Where an element of the target boxes' block sits in the array: in the point's own image. -/
theorem emb2 (t : Fin cfg0.N) (k : Fin 100) (n : Fin 4) :
    (win0_2.rect t).emb (ix3 (0 : Fin 1) k n) = (ix3 (img t) k n : (⟨3, ![4, 100, 4]⟩ : Shape).Idx) := by
  funext a
  refine Fin.ext ?_
  rw [win0_2.rect_emb_val, (indices t).2.2.1]
  match a with
  | ⟨0, _⟩ => exact Nat.mul_one _
  | ⟨1, _⟩ => show 0 * 100 + k.val = k.val; omega
  | ⟨2, _⟩ => show 0 * 4 + n.val = n.val; omega

/-- Where an element of the labels' block sits in the array: in the point's own image. -/
theorem emb3 (t : Fin cfg0.N) (k : Fin 100) (n : Fin 1) :
    (win0_3.rect t).emb (ix3 (0 : Fin 1) k n) = (ix3 (img t) k n : (⟨3, ![4, 100, 1]⟩ : Shape).Idx) := by
  funext a
  refine Fin.ext ?_
  rw [win0_3.rect_emb_val, (indices t).2.2.2.1]
  match a with
  | ⟨0, _⟩ => exact Nat.mul_one _
  | ⟨1, _⟩ => show 0 * 100 + k.val = k.val; omega
  | ⟨2, _⟩ => show 0 * 1 + n.val = n.val; omega

/-- Where an element of the predictions' image sizes' block sits in the array: in the point's own image. -/
theorem emb4 (t : Fin cfg0.N) (k : Fin 1) (n : Fin 4) :
    (win0_4.rect t).emb (ix3 (0 : Fin 1) k n) = (ix3 (img t) k n : (⟨3, ![4, 1, 4]⟩ : Shape).Idx) := by
  funext a
  refine Fin.ext ?_
  rw [win0_4.rect_emb_val, (indices t).2.2.2.2.1]
  match a with
  | ⟨0, _⟩ => exact Nat.mul_one _
  | ⟨1, _⟩ => show 0 * 1 + k.val = k.val; omega
  | ⟨2, _⟩ => show 0 * 4 + n.val = n.val; omega

/-- Where an element of the targets' image sizes' block sits in the array: in the point's own image. -/
theorem emb5 (t : Fin cfg0.N) (k : Fin 100) (n : Fin 4) :
    (win0_5.rect t).emb (ix3 (0 : Fin 1) k n) = (ix3 (img t) k n : (⟨3, ![4, 100, 4]⟩ : Shape).Idx) := by
  funext a
  refine Fin.ext ?_
  rw [win0_5.rect_emb_val, (indices t).2.2.2.2.2.1]
  match a with
  | ⟨0, _⟩ => exact Nat.mul_one _
  | ⟨1, _⟩ => show 0 * 100 + k.val = k.val; omega
  | ⟨2, _⟩ => show 0 * 4 + n.val = n.val; omega

/-- Where an element of the stored words' block sits in the array: in the point's own image. -/
theorem emb6 (t : Fin cfg0.N) (k : Fin 1) (n : Fin 100) :
    (win0_6.rect t).emb (ix3 (0 : Fin 1) k n) = (ix3 (img t) k n : (⟨3, ![4, 1, 100]⟩ : Shape).Idx) := by
  funext a
  refine Fin.ext ?_
  rw [win0_6.rect_emb_val, (indices t).2.2.2.2.2.2]
  match a with
  | ⟨0, _⟩ => exact Nat.mul_one _
  | ⟨1, _⟩ => show 0 * 1 + k.val = k.val; omega
  | ⟨2, _⟩ => show 0 * 100 + n.val = n.val; omega

/-- The staged block of the logits, read off the argument. -/
theorem block0 (t : Fin cfg0.N) (k : Fin 80) (n : Fin 16384) :
    (iblk m c 0 t (ix3 (0 : Fin 1) k n) : EReal) = (m ((c : Thread nD τ).loc main_arg0) (ix4 (img t) k (⟨n.val / 128, by omega⟩ : Fin 128) (⟨n.val % 128, by omega⟩ : Fin 128)) : EReal) := by
  show (V m c main_v0 ((win0_0.rect t).emb (ix3 (0 : Fin 1) k n)) : EReal) = _
  rw [emb0]
  show StableHlo.after hostOps0 _ (Proc.devRef .tc main_v0) _ = _
  after_reads_at

/-- The staged block of the predicted boxes, read off the argument. -/
theorem block1 (t : Fin cfg0.N) (k : Fin 4) (n : Fin 16384) :
    (iblk m c 1 t (ix3 (0 : Fin 1) k n) : EReal) = (m ((c : Thread nD τ).loc main_arg1) (ix4 (img t) k (⟨n.val / 128, by omega⟩ : Fin 128) (⟨n.val % 128, by omega⟩ : Fin 128)) : EReal) := by
  show (V m c main_v1 ((win0_1.rect t).emb (ix3 (0 : Fin 1) k n)) : EReal) = _
  rw [emb1]
  show StableHlo.after hostOps0 _ (Proc.devRef .tc main_v1) _ = _
  after_reads_at

/-- The staged block of the target boxes, read off the argument. -/
theorem block2 (t : Fin cfg0.N) (k : Fin 100) (n : Fin 4) :
    (iblk m c 2 t (ix3 (0 : Fin 1) k n) : EReal) = (m ((c : Thread nD τ).loc main_arg3) (ix3 (img t) k n) : EReal) := by
  show (V m c main_arg3 ((win0_2.rect t).emb (ix3 (0 : Fin 1) k n)) : EReal) = _
  rw [emb2]
  rw [V_main_arg3]

/-- The staged block of the labels, read off the argument. -/
theorem block3 (t : Fin cfg0.N) (k : Fin 100) (n : Fin 1) :
    (iblk m c 3 t (ix3 (0 : Fin 1) k n) : BitVec 32) = (m ((c : Thread nD τ).loc main_arg2) (ix2 (img t) k) : BitVec 32) := by
  show (V m c main_v2 ((win0_3.rect t).emb (ix3 (0 : Fin 1) k n)) : BitVec 32) = _
  rw [emb3]
  show StableHlo.after hostOps0 _ (Proc.devRef .tc main_v2) _ = _
  after_reads_at

/-- The staged block of the predictions' image sizes, read off the argument. -/
theorem block4 (t : Fin cfg0.N) (k : Fin 1) (n : Fin 4) :
    (iblk m c 4 t (ix3 (0 : Fin 1) k n) : EReal) = (m ((c : Thread nD τ).loc main_arg4) (ix2 (img t) n) : EReal) := by
  show (V m c main_v3 ((win0_4.rect t).emb (ix3 (0 : Fin 1) k n)) : EReal) = _
  rw [emb4]
  show StableHlo.after hostOps0 _ (Proc.devRef .tc main_v3) _ = _
  after_reads_at

/-- The staged block of the targets' image sizes, read off the argument. -/
theorem block5 (t : Fin cfg0.N) (k : Fin 100) (n : Fin 4) :
    (iblk m c 5 t (ix3 (0 : Fin 1) k n) : EReal) = (m ((c : Thread nD τ).loc main_arg5) (ix3 (img t) k n) : EReal) := by
  show (V m c main_arg5 ((win0_5.rect t).emb (ix3 (0 : Fin 1) k n)) : EReal) = _
  rw [emb5]
  rw [V_main_arg5]

/-- The cost of a place of image `b` against a target of label `k`, off the launch contents. -/
abbrev priceOf (b : Fin 4) (t : Fin 100) (k : Fin 80) (n : ℕ) : EReal :=
  Spec.price (m ((c : Thread nD τ).loc main_arg0)) (m ((c : Thread nD τ).loc main_arg1)) (m ((c : Thread nD τ).loc main_arg3))
    (m ((c : Thread nD τ).loc main_arg4)) (m ((c : Thread nD τ).loc main_arg5)) b t k n

/-- A word that names the first place of least cost for target `t` of image `b`, whatever class the target's label names. -/
def Names (b : Fin 4) (t : Fin 100) (v : BitVec 32) : Prop :=
  ∀ k : Fin 80, (m ((c : Thread nD τ).loc main_arg2) (ix2 b t) : BitVec 32).toNat = k →
    ∃ n, Argmin.IsFirst (priceOf m c b t k) 0 16384 n ∧ v = BitVec.ofNat 32 n

/-- The block a grid point writes back names, at each target, its image's best place. -/
theorem block_names (t : Fin cfg0.N) (j : Fin 100) :
    Names m c (img t) j ((dats m 0 c).flushed 6 t (ix3 (0 : Fin 1) (0 : Fin 1) j)) := by
  intro k hk
  have hl : (iblk m c 3 t (ix3 (0 : Fin 1) j (0 : Fin 1)) : BitVec 32).toNat = k := (congrArg BitVec.toNat (block3 m c t j 0)).trans hk
  have hl' : (iblk m c 3 t (ix3 (0 : Fin 1) j (0 : Fin 1)) : BitVec 32).toNat < 80 := hl ▸ k.isLt
  obtain ⟨n, hn, -, h2⟩ := best_at (iblk m c 0 t) (iblk m c 1 t) (iblk m c 2 t) (iblk m c 3 t) (iblk m c 4 t) (iblk m c 5 t)
    (priceOf m c (img t) j k) j (fun off h l => by
      have hlt : off + l.val < 16384 := by omega
      rw [T_at _ _ _ _ _ _ off h j l hl']
      unfold priceOf Spec.price
      rw [dif_pos hlt]
      have ek : (⟨_, hl'⟩ : Fin 80) = k := Fin.ext hl
      rw [ek, block0]
      simp only [block1, block2, block4, block5])
    (by omega) (by omega) (by omega) (by omega) (by omega) (by omega) (by omega) (by omega)
  refine ⟨n, hn, Eq.trans ?_ h2⟩
  show (dats m 0 c).after 6 t (ix3 (0 : Fin 1) (0 : Fin 1) j) = _
  rw [after0_6]
  unfold out0_6
  rw [stored _ _ _ _ _ _ (by omega) (by omega) (by omega) (by omega) (by omega) (by omega) (by omega) (by omega),
    View.canon_unit_zero (funext fun a => by fin_cases a <;> rfl)]
  pointwise

/-- After the region, the intermediate array names the best places. -/
theorem array_names (b : Fin 4) (j : Fin 100) :
    Names m c b j ((dats m 0 c).arrAt 6 cfg0.N (ix3 b (0 : Fin 1) j)) := by
  have ht : b.val < cfg0.N := lt_of_lt_of_eq b.isLt N_0.symm
  have e := emb6 ⟨b.val, ht⟩ (0 : Fin 1) j
  have h := (dats m 0 c).arrAt_forall_of_flushed 6 (fun i v => Names m c (i 0) (i 2) v) (fun t _ y => ?_) cfg0.N ⟨b.val, ht⟩
    ((win0_6.rect ⟨b.val, ht⟩).emb (ix3 (0 : Fin 1) (0 : Fin 1) j)) ht (flush0_6 _) ?_
  · rw [e] at h
    exact h
  · have ey : y = ix3 (0 : Fin 1) (0 : Fin 1) (y 2) := by
      funext a
      match a with
      | ⟨0, _⟩ => exact Subsingleton.elim (α := Fin 1) _ _
      | ⟨1, _⟩ => exact Subsingleton.elim (α := Fin 1) _ _
      | ⟨2, _⟩ => rfl
    rw [ey]
    have h := block_names m c t (y 2)
    have e' : (win0_6.rect t).emb (ix3 (0 : Fin 1) (0 : Fin 1) (y 2 : Fin 100)) = (ix3 (img t) (0 : Fin 1) (y 2 : Fin 100) : S4x1x100.Idx) := emb6 t 0 (y 2)
    exact (congrArg (fun i : S4x1x100.Idx => Names m c (i 0) (i 2) ((dats m 0 c).flushed 6 t (ix3 (0 : Fin 1) (0 : Fin 1) (y 2 : Fin 100)))) e').mpr h
  · exact View.emb_mem_set _ _

variable (ρ : Dev nD → PrngReg)

/-- The kernel program's run: the first result names, at each target, its image's place of least cost; the second is the
    target's number. -/
theorem run : θ_run defs (onTc (τ := τ) (main (F := Ideal))) ⟨m, fun _ => 0, ρ⟩ fun r => ∀ c : Dev nD,
    (∀ b j, Names m c b j (r.2.mem ((c : Thread nD τ).loc main_v5) (ix2 b j)))
      ∧ ∀ (b : Fin 4) (j : Fin 100), (r.2.mem ((c : Thread nD τ).loc main_v8) (ix2 b j) : BitVec 32) = BitVec.ofNat 32 j := by
  refine (θ_run defs _ _).mono (fun r h c => ⟨fun b j => ?_, fun b j => ?_⟩) (run_main m ρ)
  · rw [(h c).2 main_v5 (by decide)]
    unfold Pipeline.afterTail₀
    have e : (StableHlo.after hostOps1 (Pipeline.withArrays spec0 c (V0 m c) fun w => (dats m 0 c).arrAt w cfg0.N)
        (Proc.devRef .tc main_v5) (ix2 b j) : BitVec 32)
          = Pipeline.withArrays spec0 c (V0 m c) (fun w => (dats m 0 c).arrAt w cfg0.N) (Proc.devRef .tc (Pipeline.arrRef spec0 6)) (ix3 b (0 : Fin 1) j) := by
      after_reads_at
    refine Eq.mpr (congrArg (Names m c b j) e) ?_
    rw [Pipeline.withArrays_arr spec0 (by decide) c (V0 m c) _ 6]
    exact array_names m c b j
  · rw [(h c).2 main_v8 (by decide)]
    unfold Pipeline.afterTail₀
    show (StableHlo.after hostOps1 _ (Proc.devRef .tc main_v8) (ix2 b j) : BitVec 32) = _
    after_reads_at

end Cert.Ker

end
-- ==== Proof.RefArgmin.lean ====
/-
  The reference's arg-min along the predictions finds the first least place.
-/
module

public import proofs.«01_k».proof.Proof.RefRun
public import proofs.«01_k».proof.Proof.Argmin

@[expose] public section

set_option maxRecDepth 16384

noncomputable section

namespace Cert.Ref

open Idealize.ShloMosaic Idealize.SL.Sem Cert.ReferenceIdeal Cert.ReferenceIdeal.Gen Cert.Argmin

/-- The arg-min's step: of two values, each with its index, the lesser is kept, and of two equal ones the lesser index. -/
theorem reducer_eq (p q : EReal × BitVec 32) (hp : p.2.toNat < 2 ^ 31) (hq : q.2.toNat < 2 ^ 31) :
    (reducer_argmin_f32_i32 (F := Ideal) p q : EReal × BitVec 32)
      = if p.1 < q.1 ∨ p.1 = q.1 ∧ p.2.toNat < q.2.toNat then p else q := by
  obtain ⟨x, i⟩ := p
  obtain ⟨y, j⟩ := q
  have hs : i.slt j = decide (i.toNat < j.toNat) := by
    rw [BitVec.slt, BitVec.toInt_eq_toNat_of_lt (by simp only at hp; omega), BitVec.toInt_eq_toNat_of_lt (by simp only at hq; omega)]
    simp
  rcases lt_trichotomy x y with h | h | h
  · simp [reducer_argmin_f32_i32, Ideal.cmpf_def, Ideal.cmp, IntOp.ori, IntOp.andi, Scalar.select, h, h.ne]
  · subst h
    by_cases hij : i.toNat < j.toNat <;>
      simp [reducer_argmin_f32_i32, Ideal.cmpf_def, Ideal.cmp, IntOp.ori, IntOp.andi, IntOp.cmpi, Scalar.select, hs, hij]
  · simp [reducer_argmin_f32_i32, Ideal.cmpf_def, Ideal.cmp, IntOp.ori, IntOp.andi, Scalar.select, h.not_gt, h.ne']

/-- The step keeps one of its operands, not after either. -/
theorem reducer_least (p q : EReal × BitVec 32) (hp : p.2.toNat < 2 ^ 31) (hq : q.2.toNat < 2 ^ 31) :
    ((reducer_argmin_f32_i32 (F := Ideal) p q : EReal × BitVec 32) = p ∨ (reducer_argmin_f32_i32 (F := Ideal) p q : EReal × BitVec 32) = q)
      ∧ Le (reducer_argmin_f32_i32 (F := Ideal) p q) p ∧ Le (reducer_argmin_f32_i32 (F := Ideal) p q) q := by
  rw [reducer_eq p q hp hq]
  split <;> rename_i h
  · exact ⟨.inl rfl, .rfl, h.imp_right fun h => ⟨h.1, h.2.le⟩⟩
  · refine ⟨.inr rfl, ?_, .rfl⟩
    rcases lt_trichotomy p.1 q.1 with h' | h' | h'
    · exact absurd (.inl h') h
    · exact .inr ⟨h'.symm, not_lt.1 fun hlt => h (.inr ⟨h', hlt⟩)⟩
    · exact .inl h'

/-- The arg-min along the predictions, at an image and a target: the first place where the array is least. -/
theorem argmin_at (x : S4x16384x100.Idx → EReal) (b : Fin 4) (t : Fin 100) (f : ℕ → EReal)
    (hf : ∀ n : Fin 16384, x (ix3 b n t) = f n.val) :
    ∃ n, IsFirst f 0 16384 n
      ∧ ((Host.argReduce (F := Ideal) (φ := .f32) reducer_argmin_f32_i32 x (iotaInDim S4x16384x100 32 1)
          (constant S_ FTy.f32 2139095040#32) (constantI S_ 32 0#32) reducesTo_S4x16384x100_S4x100_d1 h_S_ (ix2 b t)).2 : BitVec 32)
        = BitVec.ofNat 32 n := by
  classical
  have h : S4x16384x100.Reduces [(1 : Fin 3)] S4x100 := by decide
  have hl : ∀ n : Fin 16384, h.lift (ix2 b t) n = ix3 b n t := fun n => by
    funext a
    apply Fin.ext
    refine (h.lift_val (ix2 b t) n a).trans ?_
    match a with
    | ⟨0, _⟩ => rfl
    | ⟨1, _⟩ => rfl
    | ⟨2, _⟩ => rfl
  have hmem : ∀ i : S4x16384x100.Idx, reducesTo_S4x16384x100_S4x100_d1.drop i = ix2 b t ↔ ∃ n : Fin 16384, ix3 b n t = i := fun i => by
    rw [Shape.ReducesTo.drop_eq_drop _ h]
    have := Finset.ext_iff.1 (h.filter_drop_eq_image_lift (ix2 b t)) i
    simp only [Finset.mem_filter, Finset.mem_univ, true_and, Finset.mem_image] at this
    rw [this]
    exact ⟨fun ⟨n, e⟩ => ⟨n, (hl n).symm.trans e⟩, fun ⟨n, e⟩ => ⟨n, (hl n).trans e⟩⟩
  have hL : ∀ q : EReal × BitVec 32, q ∈ Host.argReduceFiber x (iotaInDim S4x16384x100 32 1) reducesTo_S4x16384x100_S4x100_d1 (ix2 b t)
      ↔ ∃ k, k < 16384 ∧ q = (f k, BitVec.ofNat 32 k) := fun q => by
    unfold Host.argReduceFiber
    simp only [List.mem_map, List.mem_filter, List.mem_finRange, true_and, decide_eq_true_eq]
    constructor
    · rintro ⟨m, hm, rfl⟩
      obtain ⟨n, e⟩ := (hmem _).1 hm
      refine ⟨n.val, n.isLt, ?_⟩
      rw [← e, hf]
      rfl
    · rintro ⟨k, hk, rfl⟩
      refine ⟨S4x16384x100.rowMajor (ix3 b ⟨k, hk⟩ t), ?_, ?_⟩
      · rw [Equiv.symm_apply_apply]
        exact (hmem _).2 ⟨_, rfl⟩
      · rw [Equiv.symm_apply_apply, hf]
        rfl
  have hto : ∀ k, k < 16384 → (BitVec.ofNat 32 k).toNat < 2 ^ 31 := fun k hk => by
    rw [BitVec.toNat_ofNat]
    omega
  rw [Ideal.argReduce_eq_reduce2, Host.reduce2_eq_foldl_fiber]
  have hi : (constant (F := Ideal) S_ FTy.f32 2139095040#32 (Shape.Idx.first h_S_), constantI S_ 32 0#32 (Shape.Idx.first h_S_))
      = ((⊤, 0#32) : EReal × BitVec 32) := by
    refine Prod.ext ?_ rfl
    simp [constant, Ideal.ofBits, Ideal.ieee]
  have key := foldl_least reducer_least (Host.argReduceFiber x (iotaInDim S4x16384x100 32 1) reducesTo_S4x16384x100_S4x100_d1 (ix2 b t))
    (fun q hq => by
      obtain ⟨k, hk, rfl⟩ := (hL q).1 hq
      exact hto k hk) (⊤, 0#32) (by decide)
  rw [hi]
  exact isFirst_of_least (by decide) (by decide) hL key.1 key.2.2

end Cert.Ref

end
-- ==== Proof.Gather.lean ====
/-
  The reference's gather along the classes, at an index.
-/
module

public import proofs.«01_k».proof.Proof.RefRun

@[expose] public section

set_option maxRecDepth 16384

namespace Cert.Ref

open Idealize.ShloMosaic Idealize.SL.Sem Cert.ReferenceIdeal Cert.ReferenceIdeal.Gen
variable (b : Fin 4) (n : Fin 16384) (t : Fin 100)

/-- The gather's dimension numbers. -/
abbrev gd := gather_S4x16384x80_S4x100x1_S4x16384x100_1_2_0_0_2_2_1163841

/-- The coordinate a result index gives the start indices' first axis is its image. -/
theorem start_image (h : (0 : Fin 3) ∈ GatherDims.siKept gd) : (GatherDims.siCoord gd (ix3 b n t) (0 : Fin 3) h).val = b.val := by
  have e : ∀ X : Fin 3, X = 0 → (ix3 b n t X).val = b.val := fun X hX => by subst hX; rfl
  exact e _ rfl

/-- The coordinate it gives their second axis is its target. -/
theorem start_target (h : (1 : Fin 3) ∈ GatherDims.siKept gd) : (GatherDims.siCoord gd (ix3 b n t) (1 : Fin 3) h).val = t.val := by
  have e : ∀ X : Fin 3, X = 2 → (ix3 b n t X).val = t.val := fun X hX => by subst hX; rfl
  exact e _ rfl

/-- The gather along the classes reads each target's own class. -/
theorem gather_class {α : Type} (x : S4x16384x80.Idx → α) (idx : IVec S4x100x1 32) (k : Fin 80)
    (hk : (idx (ix3 b t 0)).toNat = k.val) :
    Host.gather gd x idx (ix3 b n t) = x (ix3 b n k) := by
  have hi : (idx (ix3 b t 0)).toInt.toNat = k.val := by
    rw [BitVec.toInt_eq_toNat_of_lt (by omega), hk]
    rfl
  have hs : ∀ c, GatherDims.siIdx gd (ix3 b n t) c = ix3 b t 0 := fun c => by
    funext a
    apply Fin.ext
    match a with
    | ⟨0, _⟩ =>
      unfold GatherDims.siIdx
      refine (congrArg Fin.val (dif_neg (by show ¬(0 : ℕ) = 2; decide))).trans ?_
      exact start_image b n t _
    | ⟨1, _⟩ =>
      unfold GatherDims.siIdx
      refine (congrArg Fin.val (dif_neg (by show ¬(1 : ℕ) = 2; decide))).trans ?_
      exact start_target b n t _
    | ⟨2, _⟩ =>
      exact Nat.lt_one_iff.1 (Fin.isLt _)
  unfold Host.gather
  congr 1
  funext a
  apply Fin.ext
  match a with
  | ⟨0, _⟩ =>
    show GatherDims.start gd _ idx (0 : Fin 3) + GatherDims.batchCoord gd _ (0 : Fin 3) + GatherDims.offCoord gd _ (0 : Fin 3) = b.val
    rw [GatherDims.start_batching _ _ _ _ (by decide), GatherDims.offCoord_eq_zero _ _ _ (by decide), Nat.zero_add, Nat.add_zero]
    unfold GatherDims.batchCoord
    rw [dif_pos (by decide)]
    exact start_image b n t _
  | ⟨1, _⟩ =>
    show GatherDims.start gd _ idx (1 : Fin 3) + GatherDims.batchCoord gd _ (1 : Fin 3) + GatherDims.offCoord gd _ (1 : Fin 3) = n.val
    rw [GatherDims.batchCoord_eq_zero _ _ _ (by decide)]
    unfold GatherDims.start GatherDims.offCoord
    rw [dif_neg (by decide), dif_pos (by decide)]
    have e : ∀ X : Fin 3, X = 1 → (ix3 b n t X).val = n.val := fun X hX => by subst hX; rfl
    exact (Nat.zero_add _).trans (e _ rfl)
  | ⟨2, _⟩ =>
    show GatherDims.start gd _ idx (2 : Fin 3) + GatherDims.batchCoord gd _ (2 : Fin 3) + GatherDims.offCoord gd _ (2 : Fin 3) = k.val
    rw [GatherDims.batchCoord_eq_zero _ _ _ (by decide), GatherDims.offCoord_eq_zero _ _ _ (by decide)]
    unfold GatherDims.start
    rw [dif_pos (by decide), hs, hi]
    exact min_eq_left (by show k.val ≤ 79; omega)

end Cert.Ref

end
-- ==== Proof.RefVal.lean ====
/-
  The reference's values, element by element: what each stretch of its operations leaves at an index, and the stretches
  one after the other — the cost of every prediction against every target, and its first least place along the
  predictions.
-/
module

public import proofs.«01_k».proof.Proof.RefCut
public import proofs.«01_k».proof.Proof.Spec
public import proofs.«01_k».proof.Proof.RefArgmin
public import proofs.«01_k».proof.Proof.Gather

@[expose] public section

set_option maxRecDepth 16384

noncomputable section

namespace Cert.Ref

open Idealize.ShloMosaic Idealize.SL.Sem Cert.ReferenceIdeal Cert.ReferenceIdeal.Gen

variable (V : Idealize.ShloMosaic.Valuation τ sig (Elt Ideal))

variable (b : Fin 4) (n : Fin 16384) (t : Fin 100)

/-- The probability of a class. -/
theorem v7_at (k : Fin 80) : (StableHlo.after cut0 V (Proc.devRef .tc main_v7) (ix3 b n k) : EReal)
    = Ideal.logistic (V (Proc.devRef .tc main_arg0) (ix4 b k (⟨n.val / 128, by omega⟩ : Fin 128) (⟨n.val % 128, by omega⟩ : Fin 128)) : EReal) := by
  unfold cut0
  after_reads_at
  rfl

/-- A corner of a predicted box. -/
theorem v9_at (q : Fin 4) : (StableHlo.after cut0 V (Proc.devRef .tc main_v9) (ix3 b n q) : EReal)
    = (V (Proc.devRef .tc main_arg1) (ix4 b q (⟨n.val / 128, by omega⟩ : Fin 128) (⟨n.val % 128, by omega⟩ : Fin 128)) : EReal) := by
  unfold cut0
  after_reads_at

/-- The focal cost of the class not being there. -/
theorem v20_at (k : Fin 80) (x : EReal) (hx : (V (Proc.devRef .tc main_v7) (ix3 b n k) : EReal) = x) :
    (StableHlo.after cut1 V (Proc.devRef .tc main_v20) (ix3 b n k) : EReal)
      = Ideal.ofBits .f32 0x3F400000#32 * Ideal.pow x (Ideal.ofBits .f32 0x40000000#32)
        * -Ideal.log (1 - x + Ideal.ofBits .f32 0x322BCC77#32) := by
  unfold cut1
  after_reads_at
  rw [hx]

/-- The focal cost of the class being there. -/
theorem v31_at (k : Fin 80) (x : EReal) (hx : (V (Proc.devRef .tc main_v7) (ix3 b n k) : EReal) = x) :
    (StableHlo.after cut1 V (Proc.devRef .tc main_v31) (ix3 b n k) : EReal)
      = Ideal.ofBits .f32 0x3E800000#32 * Ideal.pow (1 - x) (Ideal.ofBits .f32 0x40000000#32)
        * -Ideal.log (x + Ideal.ofBits .f32 0x322BCC77#32) := by
  unfold cut1
  after_reads_at
  rw [hx]

/-- A label that names a class is not moved by the wrapping of negative ones. -/
theorem label_at (l : BitVec 32) (k : Fin 80) (hk : l.toNat = k.val) :
    (Scalar.select (IntOp.cmpi CmpIPredicate.slt l 0#32) (IntOp.addi l 80#32) l).toNat = k.val := by
  have hs : l.slt 0#32 = false := by
    rw [BitVec.slt, BitVec.toInt_eq_toNat_of_lt (by omega)]
    simp
  simp [Scalar.select, IntOp.cmpi, hs, hk]

/-- The first of the gathers. -/
theorem v38_at (k : Fin 80) (hk : (V (Proc.devRef .tc main_arg2) (ix2 b t) : BitVec 32).toNat = k.val) :
    (StableHlo.after cut2 V (Proc.devRef .tc main_v38) (ix3 b n t) : EReal) = (V (Proc.devRef .tc main_v31) (ix3 b n k) : EReal) := by
  unfold cut2
  after_reads_at
  refine gather_class b n t _ _ k ?_
  pointwise
  exact label_at _ k hk

/-- The other one. -/
theorem v45_at (k : Fin 80) (hk : (V (Proc.devRef .tc main_arg2) (ix2 b t) : BitVec 32).toNat = k.val) :
    (StableHlo.after cut2 V (Proc.devRef .tc main_v45) (ix3 b n t) : EReal) = (V (Proc.devRef .tc main_v20) (ix3 b n k) : EReal) := by
  unfold cut2
  after_reads_at
  refine gather_class b n t _ _ k ?_
  pointwise
  exact label_at _ k hk

/-- The distance of a prediction and a target. -/
theorem v59_at (p i u j : Fin 4 → EReal) (hp : ∀ q, (V (Proc.devRef .tc main_v9) (ix3 b n q) : EReal) = p q)
    (hi : ∀ q, (V (Proc.devRef .tc main_arg4) (ix2 b q) : EReal) = i q)
    (hu : ∀ q, (V (Proc.devRef .tc main_arg3) (ix3 b t q) : EReal) = u q)
    (hj : ∀ q, (V (Proc.devRef .tc main_arg5) (ix3 b t q) : EReal) = j q) :
    (StableHlo.after cut3 V (Proc.devRef .tc main_v59) (ix3 b n t) : EReal)
      = Spec.gap (p 0) (i 0) (u 0) (j 0) + Spec.gap (p 1) (i 1) (u 1) (j 1) + Spec.gap (p 2) (i 2) (u 2) (j 2)
        + Spec.gap (p 3) (i 3) (u 3) (j 3) := by
  unfold cut3
  after_reads_at
  simp only [hp, hi, hu, hj]
  exact Fin.sum_univ_four _

/-- The focal cost, the one term less the other. -/
theorem v46_at (x y : EReal) (hx : (V (Proc.devRef .tc main_v38) (ix3 b n t) : EReal) = x)
    (hy : (V (Proc.devRef .tc main_v45) (ix3 b n t) : EReal) = y) :
    (StableHlo.after cut3 V (Proc.devRef .tc main_v46) (ix3 b n t) : EReal) = x - y := by
  unfold cut3
  after_reads_at
  rw [hx, hy]

/-- The area of a predicted box. -/
theorem v70_at (p : Fin 4 → EReal) (hp : ∀ q, (V (Proc.devRef .tc main_v9) (ix3 b n q) : EReal) = p q) :
    (StableHlo.after cut4 V (Proc.devRef .tc main_v70) (ix2 b n) : EReal) = Spec.area p := by
  unfold cut4
  after_reads_at
  rw [hp, hp, hp, hp]
  rfl

/-- The area of a target's box. -/
theorem v81_at (u : Fin 4 → EReal) (hu : ∀ q, (V (Proc.devRef .tc main_arg3) (ix3 b t q) : EReal) = u q) :
    (StableHlo.after cut4 V (Proc.devRef .tc main_v81) (ix2 b t) : EReal) = Spec.area u := by
  unfold cut4
  after_reads_at
  rw [hu, hu, hu, hu]
  rfl

/-- The scalar zero the sides are clipped at. -/
theorem zero_at : (id (constant (F := Ideal) S_ FTy.f32 0#32) ix0 : Ideal .f32) = (0 : EReal) := by
  simp [constant, Ideal.ofBits, Ideal.ieee]

/-- The area a prediction and a target share. -/
theorem v102_at (p u : Fin 4 → EReal) (hp : ∀ q, (V (Proc.devRef .tc main_v9) (ix3 b n q) : EReal) = p q)
    (hu : ∀ q, (V (Proc.devRef .tc main_arg3) (ix3 b t q) : EReal) = u q) :
    (StableHlo.after cut5 V (Proc.devRef .tc main_v102) (ix3 b n t) : EReal) = Spec.inter p u := by
  unfold cut5
  after_reads_at
  rw [zero_at, hp, hp, hp, hp, hu, hu, hu, hu, max_comm, max_comm (0 : EReal)]
  rfl

/-- The area of a predicted box, laid out. -/
theorem v103_at (x : EReal) (hx : (V (Proc.devRef .tc main_v70) (ix2 b n) : EReal) = x) :
    (StableHlo.after cut5 V (Proc.devRef .tc main_v103) (ix3 b n 0) : EReal) = x := by
  unfold cut5
  after_reads_at
  rw [hx]

/-- The generalized intersection over union of a prediction and a target, negated. -/
theorem v134_at (p u : Fin 4 → EReal) (hp : ∀ q, (V (Proc.devRef .tc main_v9) (ix3 b n q) : EReal) = p q)
    (hu : ∀ q, (V (Proc.devRef .tc main_arg3) (ix3 b t q) : EReal) = u q) (h0 : u 0 < u 2) (h1 : u 1 < u 3)
    (hi : (V (Proc.devRef .tc main_v102) (ix3 b n t) : EReal) = Spec.inter p u)
    (ha : (V (Proc.devRef .tc main_v103) (ix3 b n 0) : EReal) = Spec.area p)
    (hb : (V (Proc.devRef .tc main_v81) (ix2 b t) : EReal) = Spec.area u) :
    (StableHlo.after cut6 V (Proc.devRef .tc main_v134) (ix3 b n t) : EReal) = -Spec.giou p u := by
  unfold cut6
  after_reads_at
  rw [zero_at, hi, ha, hb, hp, hp, hp, hp, hu, hu, hu, hu, Spec.clip_side _ _ _ _ h0, Spec.clip_side _ _ _ _ h1]
  rfl

/-- The cost: the three terms added up. -/
theorem v142_at (x y z : EReal) (hx : (V (Proc.devRef .tc main_v59) (ix3 b n t) : EReal) = x)
    (hy : (V (Proc.devRef .tc main_v46) (ix3 b n t) : EReal) = y)
    (hz : (V (Proc.devRef .tc main_v134) (ix3 b n t) : EReal) = z) :
    (StableHlo.after cut7 V (Proc.devRef .tc main_v142) (ix3 b n t) : EReal) = x + y + z := by
  unfold cut7
  after_reads_at
  rw [hx, hy, hz]

/-- The arg-min of the costs along the predictions. -/
theorem v143_at (f : ℕ → EReal) (hf : ∀ n : Fin 16384, (V (Proc.devRef .tc main_v142) (ix3 b n t) : EReal) = f n.val) :
    ∃ n, Argmin.IsFirst f 0 16384 n
      ∧ (StableHlo.after cut8 V (Proc.devRef .tc main_v143) (ix2 b t) : BitVec 32) = BitVec.ofNat 32 n := by
  unfold cut8
  after_reads_at
  exact argmin_at (V (Proc.devRef .tc main_v142)) b t f hf

/-- The target's number. -/
theorem v148_at : (StableHlo.after cut8 V (Proc.devRef .tc main_v148) (ix2 b t) : BitVec 32)
    = BitVec.ofNat 32 t := by
  unfold cut8
  after_reads_at

/-- The cost of a prediction against a target, where the target's label is a class and its box has positive extents. -/
theorem price_at (k : Fin 80) (hk : (V (Proc.devRef .tc main_arg2) (ix2 b t) : BitVec 32).toNat = k.val)
    (u : Fin 4 → EReal) (hu : ∀ q, (V (Proc.devRef .tc main_arg3) (ix3 b t q) : EReal) = u q) (h0 : u 0 < u 2) (h1 : u 1 < u 3) :
    (StableHlo.after cut7 (StableHlo.after cut6 (StableHlo.after cut5 (StableHlo.after cut4 (StableHlo.after cut3
        (StableHlo.after cut2 (StableHlo.after cut1 (StableHlo.after cut0 V))))))) (Proc.devRef .tc main_v142) (ix3 b n t) : EReal)
      = Spec.price (V (Proc.devRef .tc main_arg0)) (V (Proc.devRef .tc main_arg1)) (V (Proc.devRef .tc main_arg3))
          (V (Proc.devRef .tc main_arg4)) (V (Proc.devRef .tc main_arg5)) b t k n.val := by
  have h7 := v7_at V b n k
  have p1 := v9_at V b n
  generalize hx : (V (Proc.devRef .tc main_arg0) (ix4 b k (⟨n.val / 128, by omega⟩ : Fin 128) (⟨n.val % 128, by omega⟩ : Fin 128)) : EReal) = x at h7
  obtain ⟨p, hp⟩ : ∃ p : Fin 4 → EReal, ∀ q, (V (Proc.devRef .tc main_arg1) (ix4 b q (⟨n.val / 128, by omega⟩ : Fin 128) (⟨n.val % 128, by omega⟩ : Fin 128)) : EReal) = p q :=
    ⟨_, fun _ => rfl⟩
  obtain ⟨i, hi⟩ : ∃ i : Fin 4 → EReal, ∀ q, (V (Proc.devRef .tc main_arg4) (ix2 b q) : EReal) = i q := ⟨_, fun _ => rfl⟩
  obtain ⟨j, hj⟩ : ∃ j : Fin 4 → EReal, ∀ q, (V (Proc.devRef .tc main_arg5) (ix3 b t q) : EReal) = j q := ⟨_, fun _ => rfl⟩
  have hprice : Spec.price (V (Proc.devRef .tc main_arg0)) (V (Proc.devRef .tc main_arg1)) (V (Proc.devRef .tc main_arg3))
      (V (Proc.devRef .tc main_arg4)) (V (Proc.devRef .tc main_arg5)) b t k n.val = Spec.cost x p i u j := by
    unfold Spec.price
    rw [dif_pos n.isLt, ← hx, ← funext hp, ← funext hi, ← funext hj, ← funext hu]
  rw [hprice]
  clear hprice hx
  have p1 := fun q => (p1 q).trans (hp q)
  have l1 := (congrFun (keep0_arg2 V) (ix2 b t))
  have u1 := fun q => (congrFun (keep0_arg3 V) (ix3 b t q)).trans (hu q)
  have i1 := fun q => (congrFun (keep0_arg4 V) (ix2 b q)).trans (hi q)
  have j1 := fun q => (congrFun (keep0_arg5 V) (ix3 b t q)).trans (hj q)
  have k1 := (congrArg BitVec.toNat l1).trans hk
  generalize StableHlo.after cut0 V = V at *
  have h20 := v20_at V b n k _ h7
  have h31 := v31_at V b n k _ h7
  have p2 := fun q => (congrFun (keep1_v9 V) (ix3 b n q)).trans (p1 q)
  have l2 := (congrFun (keep1_arg2 V) (ix2 b t))
  have u2 := fun q => (congrFun (keep1_arg3 V) (ix3 b t q)).trans (u1 q)
  have i2 := fun q => (congrFun (keep1_arg4 V) (ix2 b q)).trans (i1 q)
  have j2 := fun q => (congrFun (keep1_arg5 V) (ix3 b t q)).trans (j1 q)
  have k2 := (congrArg BitVec.toNat l2).trans k1
  generalize StableHlo.after cut1 V = V at *
  have h38 := (v38_at V b n t k k2).trans h31
  have h45 := (v45_at V b n t k k2).trans h20
  have p3 := fun q => (congrFun (keep2_v9 V) (ix3 b n q)).trans (p2 q)
  have u3 := fun q => (congrFun (keep2_arg3 V) (ix3 b t q)).trans (u2 q)
  have i3 := fun q => (congrFun (keep2_arg4 V) (ix2 b q)).trans (i2 q)
  have j3 := fun q => (congrFun (keep2_arg5 V) (ix3 b t q)).trans (j2 q)
  generalize StableHlo.after cut2 V = V at *
  have h59 := v59_at V b n t p i u j p3 i3 u3 j3
  have h46 := v46_at V b n t _ _ h38 h45
  have p4 := fun q => (congrFun (keep3_v9 V) (ix3 b n q)).trans (p3 q)
  have u4 := fun q => (congrFun (keep3_arg3 V) (ix3 b t q)).trans (u3 q)
  generalize StableHlo.after cut3 V = V at *
  have h70 := v70_at V b n p p4
  have h81 := v81_at V b t u u4
  have p5 := fun q => (congrFun (keep4_v9 V) (ix3 b n q)).trans (p4 q)
  have u5 := fun q => (congrFun (keep4_arg3 V) (ix3 b t q)).trans (u4 q)
  have h59 := (congrFun (keep4_v59 V) (ix3 b n t)).trans h59
  have h46 := (congrFun (keep4_v46 V) (ix3 b n t)).trans h46
  generalize StableHlo.after cut4 V = V at *
  have h102 := v102_at V b n t p u p5 u5
  have h103 := v103_at V b n _ h70
  have p6 := fun q => (congrFun (keep5_v9 V) (ix3 b n q)).trans (p5 q)
  have u6 := fun q => (congrFun (keep5_arg3 V) (ix3 b t q)).trans (u5 q)
  have h59 := (congrFun (keep5_v59 V) (ix3 b n t)).trans h59
  have h46 := (congrFun (keep5_v46 V) (ix3 b n t)).trans h46
  have h81 := (congrFun (keep5_v81 V) (ix2 b t)).trans h81
  generalize StableHlo.after cut5 V = V at *
  have h134 := v134_at V b n t p u p6 u6 h0 h1 h102 h103 h81
  have h59 := (congrFun (keep6_v59 V) (ix3 b n t)).trans h59
  have h46 := (congrFun (keep6_v46 V) (ix3 b n t)).trans h46
  generalize StableHlo.after cut6 V = V at *
  refine (v142_at V b n t _ _ _ h59 h46 h134).trans ?_
  exact (sub_eq_add_neg (_ : EReal) _).symm

/-- What the reference leaves of the arg-min at an image and a target whose label is a class and whose box has positive
    extents: the first place where the target's cost is least. -/
theorem first_at (k : Fin 80) (hk : (V (Proc.devRef .tc main_arg2) (ix2 b t) : BitVec 32).toNat = k.val)
    (u : Fin 4 → EReal) (hu : ∀ q, (V (Proc.devRef .tc main_arg3) (ix3 b t q) : EReal) = u q) (h0 : u 0 < u 2) (h1 : u 1 < u 3) :
    ∃ n, Argmin.IsFirst (Spec.price (V (Proc.devRef .tc main_arg0)) (V (Proc.devRef .tc main_arg1)) (V (Proc.devRef .tc main_arg3))
          (V (Proc.devRef .tc main_arg4)) (V (Proc.devRef .tc main_arg5)) b t k) 0 16384 n
      ∧ (StableHlo.after line V (Proc.devRef .tc main_v143) (ix2 b t) : BitVec 32) = BitVec.ofNat 32 n := by
  rw [after_line]
  exact v143_at _ b t _ fun n => price_at V b n t k hk u hu h0 h1

/-- What the reference leaves of the targets' numbers. -/
theorem number_at : (StableHlo.after line V (Proc.devRef .tc main_v148) (ix2 b t) : BitVec 32) = BitVec.ofNat 32 t := by
  rw [after_line]
  exact v148_at _ b t

end Cert.Ref

end
-- ==== Proof.Admissible.lean ====
/-
  What the precondition says of a target: its label is one of the classes, and its box has positive extents.
-/
module

public import proofs.«01_k».proof.Pre_admissible
public import proofs.«01_k».proof.Proof.Gen.Pre_admissible
public import Idealize.ShloMosaic.Lib.Pointwise

@[expose] public section

set_option maxRecDepth 16384

noncomputable section

namespace Cert.Adm

open Idealize.ShloMosaic Cert.Pre_admissible Cert.Pre_admissible.Gen

/-- A conjunction of truth values is true only if both are. -/
theorem and_one (x y : BitVec 1) : x &&& y = 1#1 ↔ x = 1#1 ∧ y = 1#1 := by
  revert x y
  decide

/-- The precondition's last operations: where they give true, the label is a class and the box's extents are positive. -/
theorem part7_at (l : IVec S4x100 32) (u : S4x100x4.Idx → EReal) (x y : FVec Ideal S4x8x2048x100 .f32) (b : Fin 4) (t : Fin 100)
    (h : fn_part7 (F := Ideal) l u x y (ix2 b t) = 1#1) :
    (∃ k : Fin 80, (l (ix2 b t)).toNat = k.val) ∧ u (ix3 b t 0) < u (ix3 b t 2) ∧ u (ix3 b t 1) < u (ix3 b t 3) := by
  unfold fn_part7 fn_part8 at h
  dsimp only at h
  generalize Host.reduce IntOp.andi _ _ _ _ = w at h
  pointwise at h
  have ob : ∀ c : Bool, BitVec.ofBool c = 1#1 ↔ c = true := by decide
  simp only [IntOp.andi, and_one, IntOp.cmpi, ob, decide_eq_true_eq] at h
  obtain ⟨⟨⟨hl, hr⟩, h0, h1⟩, -⟩ := h
  refine ⟨?_, h0, h1⟩
  simp only [BitVec.sle, BitVec.slt, decide_eq_true_eq] at hl hr
  have z : (0#32).toInt = 0 := by decide
  have e : (80#32).toInt = 80 := by decide
  rw [z] at hl
  rw [e] at hr
  have hc := BitVec.toInt_eq_toNat_cond (l (ix2 b t))
  have hb := (l (ix2 b t)).isLt
  have : (l (ix2 b t)).toNat < 80 := by
    split at hc <;> omega
  exact ⟨⟨_, this⟩, rfl⟩

/-- The precondition at a target: its label is a class and its box's extents are positive. -/
theorem at_target (a0 : S4x80x128x128.Idx → EReal) (a1 : S4x4x128x128.Idx → EReal) (l : IVec S4x100 32) (u : S4x100x4.Idx → EReal)
    (a4 : S4x4.Idx → EReal) (a5 : S4x100x4.Idx → EReal) (b : Fin 4) (t : Fin 100)
    (h : fn (F := Ideal) a0 a1 l u a4 a5 = fun _ => 1#1) :
    (∃ k : Fin 80, (l (ix2 b t)).toNat = k.val) ∧ u (ix3 b t 0) < u (ix3 b t 2) ∧ u (ix3 b t 1) < u (ix3 b t 3) := by
  have e : ∃ x y, fn (F := Ideal) a0 a1 l u a4 a5 = fn_part7 (F := Ideal) l u x y := ⟨_, _, rfl⟩
  obtain ⟨x, y, e⟩ := e
  exact part7_at l u x y b t ((congrFun e _).symm.trans (congrFun h _))

end Cert.Adm

end
-- ==== Proof.Pair.lean ====
/-
  The kernel and the reference end with the same results: both name, for every target, the first prediction of least cost.
-/
module

public import proofs.«01_k».proof.Proof.KerRun
public import proofs.«01_k».proof.Proof.RefVal
public import proofs.«01_k».proof.Proof.RefFrame
public import proofs.«01_k».proof.Proof.Admissible

@[expose] public section

set_option maxRecDepth 16384

noncomputable section

namespace Cert.Pair

open Idealize.ShloMosaic Idealize.SL.Sem

/-- An index of the results is its two coordinates. -/
theorem idx_eq (i : (⟨2, ![4, 100]⟩ : Shape).Idx) : i = ix2 (i 0 : Fin 4) (i 1 : Fin 100) := by
  funext a
  match a with
  | ⟨0, _⟩ => rfl
  | ⟨1, _⟩ => rfl

/-- At a target of the memory the precondition holds of, what the kernel names is what the reference leaves. -/
theorem first_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hpre : Pre_KernelIdeal (hPre_admissible := Pre_admissible.Gen.facts) m)
    (hagree : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5))
    (b : Fin 4) (t : Fin 100) (v : BitVec 32) (hv : Ker.Names m c b t v) :
    v = (StableHlo.after Ref.line (StableHlo.launchContents m' c) (Proc.devRef .tc ReferenceIdeal.main_v143) (ix2 b t) : BitVec 32) := by
  obtain ⟨⟨k, hk⟩, h0, h1⟩ := Adm.at_target _ _ _ _ _ _ b t (hpre c)
  obtain ⟨a0, a1, a2, a3, a4, a5⟩ := hagree
  obtain ⟨n, hn, rfl⟩ := hv k hk
  obtain ⟨n', hn', e'⟩ := Ref.first_at (StableHlo.launchContents m' c) b t k ((congrArg BitVec.toNat (congrFun a2 (ix2 b t))).trans hk)
    _ (fun q => congrFun a3 (ix3 b t q)) h0 h1
  rw [e']
  refine congrArg _ (hn.unique ?_)
  unfold Ker.priceOf
  rw [← a0, ← a1, ← a3, ← a4, ← a5]
  exact hn'

/-- From memories that agree on the arguments, where the precondition holds, both programs run, end with equal results
    and unchanged arguments. -/
theorem algebraic : algebraic_KernelIdeal_ReferenceIdeal (hKernelIdeal := KernelIdeal.Gen.facts)
    (hReferenceIdeal := ReferenceIdeal.Gen.facts) (hPre_admissible := Pre_admissible.Gen.facts) := by
  intro m g m' g' hpre hagree
  refine ⟨fun c => StableHlo.after Ref.line (StableHlo.launchContents m' c) (Proc.devRef .tc ReferenceIdeal.main_v143),
    fun c => StableHlo.after Ref.line (StableHlo.launchContents m' c) (Proc.devRef .tc ReferenceIdeal.main_v148), ?_, ?_⟩
  · refine (θ_run _ _ _).mono (fun r h c => ⟨?_, ?_, h.2.1 c⟩) (θ_run_and (Ker.run m g) (KernelIdeal.Gen.frame m g))
    · refine funext fun (i : (⟨2, ![4, 100]⟩ : Shape).Idx) => ?_
      rw [idx_eq i]
      exact first_eq m m' c hpre (hagree c) _ _ _ ((h.1 c).1 _ _)
    · refine funext fun (i : (⟨2, ![4, 100]⟩ : Shape).Idx) => ?_
      rw [idx_eq i]
      exact ((h.1 c).2 _ _).trans (Ref.number_at _ _ _).symm
  · exact (θ_run _ _ _).mono (fun r h c => ⟨h.1 c _, h.1 c _, h.2.1 c⟩) (θ_run_and (Ref.run m' g') (Ref.frame m' g'))

end Cert.Pair

end
-- ==== Proof.lean ====
/- The certificate's claim, assembled: the frames of the kernel, of its idealization and of the reference, and their equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_admissible
public import proofs.«01_k».proof.Proof.Gen.ReferenceIdeal
public import proofs.«01_k».proof.Proof.RefFrame
public import proofs.«01_k».proof.Proof.Pair
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_admissible.Gen.facts,
    fun m ρ _ => Cert.Kernel.Gen.frame m ρ, fun m ρ _ => Cert.Kernel.Gen.frame m ρ, fun m ρ _ => Cert.KernelIdeal.Gen.frame m ρ,
    fun m ρ _ => Cert.Ref.frame m ρ, fun m ρ _ => Cert.Ref.frame m ρ, trivial, Cert.Pair.algebraic⟩

end Cert.Proof

end
